-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nothing_lost_KernelIdeal [hPre_nothing_lost_KernelIdeal : Cert.Pre_nothing_lost_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_nothing_lost_KernelIdeal.fn (F := Ideal) (m ((c.tc : Thread Cert.KernelIdeal.nD Cert.KernelIdeal.τ).loc Cert.KernelIdeal.main_arg0))).1 = (fun _ => 1#1)
    ∧ (Cert.Pre_nothing_lost_KernelIdeal.fn (F := Ideal) (m ((c.tc : Thread Cert.KernelIdeal.nD Cert.KernelIdeal.τ).loc Cert.KernelIdeal.main_arg0))).2.1 = (fun _ => 1#1)
    ∧ (Cert.Pre_nothing_lost_KernelIdeal.fn (F := Ideal) (m ((c.tc : Thread Cert.KernelIdeal.nD Cert.KernelIdeal.τ).loc Cert.KernelIdeal.main_arg0))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nothing_lost_ReferenceIdeal [hPre_nothing_lost_ReferenceIdeal : Cert.Pre_nothing_lost_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nothing_lost_ReferenceIdeal.fn (F := Ideal) (m ((c.tc : Thread Cert.ReferenceIdeal.nD Cert.ReferenceIdeal.τ).loc Cert.ReferenceIdeal.main_arg0))).1 = (fun _ => 1#1)
    ∧ (Cert.Pre_nothing_lost_ReferenceIdeal.fn (F := Ideal) (m ((c.tc : Thread Cert.ReferenceIdeal.nD Cert.ReferenceIdeal.τ).loc Cert.ReferenceIdeal.main_arg0))).2.1 = (fun _ => 1#1)
    ∧ (Cert.Pre_nothing_lost_ReferenceIdeal.fn (F := Ideal) (m ((c.tc : Thread Cert.ReferenceIdeal.nD Cert.ReferenceIdeal.τ).loc Cert.ReferenceIdeal.main_arg0))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_nothing_lost_KernelIdeal [hKernelIdeal : Cert.KernelIdeal.Facts] [hPre_nothing_lost_KernelIdeal : Cert.Pre_nothing_lost_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nothing_lost_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_nothing_lost_ReferenceIdeal [hReferenceIdeal : Cert.ReferenceIdeal.Facts] [hPre_nothing_lost_ReferenceIdeal : Cert.Pre_nothing_lost_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nothing_lost_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_nothing_lost_KernelIdeal [hKernelIdeal : Cert.KernelIdeal.Facts] [hReferenceIdeal : Cert.ReferenceIdeal.Facts] [hPre_nothing_lost_KernelIdeal : Cert.Pre_nothing_lost_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nothing_lost_KernelIdeal m →
    (∀ c : Dev Cert.KernelIdeal.nD,
      m ((c.tc : Thread Cert.KernelIdeal.nD Cert.KernelIdeal.τ).loc Cert.KernelIdeal.main_arg0) = Layout.blockN ⟨2, ![1024, 8192]⟩ ⟨2, ![1024, 16384]⟩ (Layout.meshBlock [2, 2] ![[], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_nothing_lost_KernelIdeal : Cert.Pre_nothing_lost_KernelIdeal.Facts) (hPre_nothing_lost_ReferenceIdeal : Cert.Pre_nothing_lost_ReferenceIdeal.Facts),
    quiescent_Kernel (hKernel := hKernel)
    ∧ quiescent_KernelIdeal (hKernelIdeal := hKernelIdeal)
    ∧ quiescent_KernelIdeal_pre_nothing_lost_KernelIdeal (hKernelIdeal := hKernelIdeal) (hPre_nothing_lost_KernelIdeal := hPre_nothing_lost_KernelIdeal)
    ∧ quiescent_ReferenceIdeal (hReferenceIdeal := hReferenceIdeal)
    ∧ quiescent_ReferenceIdeal_pre_nothing_lost_ReferenceIdeal (hReferenceIdeal := hReferenceIdeal) (hPre_nothing_lost_ReferenceIdeal := hPre_nothing_lost_ReferenceIdeal)
    ∧ preserves_Kernel_KernelIdeal
    ∧ algebraic_KernelIdeal_ReferenceIdeal_pre_nothing_lost_KernelIdeal (hKernelIdeal := hKernelIdeal) (hReferenceIdeal := hReferenceIdeal) (hPre_nothing_lost_KernelIdeal := hPre_nothing_lost_KernelIdeal)
-- ==== Pre_nothing_lost_KernelIdeal.lean ====
abbrev S1024x8192 : Shape := ⟨2, ![1024, 8192]⟩
abbrev S1024x1 : Shape := ⟨2, ![1024, 1]⟩
abbrev S1024x2x4096 : Shape := ⟨3, ![1024, 2, 4096]⟩
abbrev S1024x2x4095 : Shape := ⟨3, ![1024, 2, 4095]⟩
abbrev S1024x1x1 : Shape := ⟨3, ![1024, 1, 1]⟩
abbrev S1024x2x64x64 : Shape := ⟨4, ![1024, 2, 64, 64]⟩
abbrev S1024x2x1x64 : Shape := ⟨4, ![1024, 2, 1, 64]⟩
abbrev S1024x2x64 : Shape := ⟨3, ![1024, 2, 64]⟩
abbrev S_ : Shape := ⟨0, ![]⟩

class Facts : Prop where
  slices_S1024x8192_S1024x1_0_8160 : S1024x8192.Slices ![0, 8160] S1024x1
  shapeCasts_S1024x8192_S1024x2x4096 : S1024x8192.ShapeCasts S1024x2x4096
  slices_S1024x2x4096_S1024x2x4095_0_0_0 : S1024x2x4096.Slices ![0, 0, 0] S1024x2x4095
  slices_S1024x2x4096_S1024x2x4095_0_0_1 : S1024x2x4096.Slices ![0, 0, 1] S1024x2x4095
  bcast_S1024x1_S1024x1x1_0_1 : S1024x1.BroadcastsInDim S1024x1x1 (![0, 1] : Fin 2 → Fin S1024x1x1.rank)
  bcast_S1024x1x1_S1024x2x4095_0_1_2 : S1024x1x1.BroadcastsInDim S1024x2x4095 (![0, 1, 2] : Fin 3 → Fin S1024x2x4095.rank)
  shapeCasts_S1024x8192_S1024x2x64x64 : S1024x8192.ShapeCasts S1024x2x64x64
  slices_S1024x2x64x64_S1024x2x1x64_0_0_61_0 : S1024x2x64x64.Slices ![0, 0, 61, 0] S1024x2x1x64
  shapeCasts_S1024x2x1x64_S1024x2x64 : S1024x2x1x64.ShapeCasts S1024x2x64
  bcast_S_S1024x8192 : S_.BroadcastsInDim S1024x8192 (![] : Fin 0 → Fin S1024x8192.rank)
  bcast_S1024x1x1_S1024x2x64_0_1_2 : S1024x1x1.BroadcastsInDim S1024x2x64 (![0, 1, 2] : Fin 3 → Fin S1024x2x64.rank)

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9
def comparator_f32_d2 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S1024x8192 .f32) : FVec F S1024x8192 .f32 :=
  let v0 : FVec F S1024x8192 .f32 := (fun x => Host.sort S1024x8192 1 comparator_f32_d1 x) arg0
  v0

def fn_sort_0 {F : FTy → Type} [FloatOps F] (arg0 : FVec F S1024x2x4096 .f32) : FVec F S1024x2x4096 .f32 :=
  let v0 : FVec F S1024x2x4096 .f32 := (fun x => Host.sort S1024x2x4096 2 comparator_f32_d2 x) arg0
  v0

def fn_sort_1 {F : FTy → Type} [FloatOps F] (arg0 : FVec F S1024x2x64x64 .f32) : FVec F S1024x2x64x64 .f32 :=
  let v0 : FVec F S1024x2x64x64 .f32 := (fun x => Host.sort S1024x2x64x64 2 comparator_f32_d2 x) arg0
  v0

def fn {F : FTy → Type} [FloatOps F] (main_arg0 : FVec F S1024x8192 .f32) : IVec S1024x8192 1 × IVec S1024x2x4095 1 × IVec S1024x2x64 1 :=
  let main_v0 : FVec F S1024x8192 .f32 := fn_sort (F := F) main_arg0
  let main_v1 : FVec F S1024x1 .f32 := (extractStridedSlice S1024x1 ![0, 8160] · slices_S1024x8192_S1024x1_0_8160) main_v0
  let main_v2 : FVec F S1024x2x4096 .f32 := shapeCast S1024x2x4096 main_arg0 shapeCasts_S1024x8192_S1024x2x4096
  let main_v3 : FVec F S1024x2x4096 .f32 := fn_sort_0 (F := F) main_v2
  let main_v4 : FVec F S1024x2x4095 .f32 := (extractStridedSlice S1024x2x4095 ![0, 0, 0] · slices_S1024x2x4096_S1024x2x4095_0_0_0) main_v3
  let main_v5 : FVec F S1024x2x4095 .f32 := (extractStridedSlice S1024x2x4095 ![0, 0, 1] · slices_S1024x2x4096_S1024x2x4095_0_0_1) main_v3
  let main_v6 : IVec S1024x2x4095 1 := cmpf .olt main_v4 main_v5
  let main_v7 : FVec F S1024x2x4095 .f32 := (extractStridedSlice S1024x2x4095 ![0, 0, 1] · slices_S1024x2x4096_S1024x2x4095_0_0_1) main_v3
  let main_v8 : FVec F S1024x1x1 .f32 := broadcastInDim S1024x1x1 ![0, 1] bcast_S1024x1_S1024x1x1_0_1 main_v1
  let main_v9 : FVec F S1024x2x4095 .f32 := broadcastInDim S1024x2x4095 ![0, 1, 2] bcast_S1024x1x1_S1024x2x4095_0_1_2 main_v8
  let main_v10 : IVec S1024x2x4095 1 := cmpf .olt main_v7 main_v9
  let main_v11 : IVec S1024x2x4095 1 := ori main_v6 main_v10
  let main_v12 : FVec F S1024x2x64x64 .f32 := shapeCast S1024x2x64x64 main_arg0 shapeCasts_S1024x8192_S1024x2x64x64
  let main_v13 : FVec F S1024x2x64x64 .f32 := fn_sort_1 (F := F) main_v12
  let main_v14 : FVec F S1024x2x1x64 .f32 := (extractStridedSlice S1024x2x1x64 ![0, 0, 61, 0] · slices_S1024x2x64x64_S1024x2x1x64_0_0_61_0) main_v13
  let main_v15 : FVec F S1024x2x64 .f32 := shapeCast S1024x2x64 main_v14 shapeCasts_S1024x2x1x64_S1024x2x64
  let main_cst : FVec F S_ .f32 := constant S_ .f32 0x7F800000#32
  let main_v16 : FVec F S1024x8192 .f32 := broadcastInDim S1024x8192 ![] bcast_S_S1024x8192 main_cst
  let main_v17 : IVec S1024x8192 1 := cmpf .olt main_arg0 main_v16
  let main_v18 : FVec F S1024x1x1 .f32 := broadcastInDim S1024x1x1 ![0, 1] bcast_S1024x1_S1024x1x1_0_1 main_v1
  let main_v19 : FVec F S1024x2x64 .f32 := broadcastInDim S1024x2x64 ![0, 1, 2] bcast_S1024x1x1_S1024x2x64_0_1_2 main_v18
  let main_v20 : IVec S1024x2x64 1 := cmpf .olt main_v15 main_v19
  (main_v17, main_v11, main_v20)
-- ==== Pre_nothing_lost_ReferenceIdeal.lean ====
abbrev S1024x16384 : Shape := ⟨2, ![1024, 16384]⟩
abbrev S1024x1 : Shape := ⟨2, ![1024, 1]⟩
abbrev S1024x2x8192 : Shape := ⟨3, ![1024, 2, 8192]⟩
abbrev S1024x2x8191 : Shape := ⟨3, ![1024, 2, 8191]⟩
abbrev S1024x1x1 : Shape := ⟨3, ![1024, 1, 1]⟩
abbrev S1024x2x128x64 : Shape := ⟨4, ![1024, 2, 128, 64]⟩
abbrev S1024x2x1x64 : Shape := ⟨4, ![1024, 2, 1, 64]⟩
abbrev S1024x2x64 : Shape := ⟨3, ![1024, 2, 64]⟩
abbrev S_ : Shape := ⟨0, ![]⟩

class Facts : Prop where
  slices_S1024x16384_S1024x1_0_16352 : S1024x16384.Slices ![0, 16352] S1024x1
  shapeCasts_S1024x16384_S1024x2x8192 : S1024x16384.ShapeCasts S1024x2x8192
  slices_S1024x2x8192_S1024x2x8191_0_0_0 : S1024x2x8192.Slices ![0, 0, 0] S1024x2x8191
  slices_S1024x2x8192_S1024x2x8191_0_0_1 : S1024x2x8192.Slices ![0, 0, 1] S1024x2x8191
  bcast_S1024x1_S1024x1x1_0_1 : S1024x1.BroadcastsInDim S1024x1x1 (![0, 1] : Fin 2 → Fin S1024x1x1.rank)
  bcast_S1024x1x1_S1024x2x8191_0_1_2 : S1024x1x1.BroadcastsInDim S1024x2x8191 (![0, 1, 2] : Fin 3 → Fin S1024x2x8191.rank)
  shapeCasts_S1024x16384_S1024x2x128x64 : S1024x16384.ShapeCasts S1024x2x128x64
  slices_S1024x2x128x64_S1024x2x1x64_0_0_125_0 : S1024x2x128x64.Slices ![0, 0, 125, 0] S1024x2x1x64
  shapeCasts_S1024x2x1x64_S1024x2x64 : S1024x2x1x64.ShapeCasts S1024x2x64
  bcast_S_S1024x16384 : S_.BroadcastsInDim S1024x16384 (![] : Fin 0 → Fin S1024x16384.rank)
  bcast_S1024x1x1_S1024x2x64_0_1_2 : S1024x1x1.BroadcastsInDim S1024x2x64 (![0, 1, 2] : Fin 3 → Fin S1024x2x64.rank)

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9
def comparator_f32_d2 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S1024x16384 .f32) : FVec F S1024x16384 .f32 :=
  let v0 : FVec F S1024x16384 .f32 := (fun x => Host.sort S1024x16384 1 comparator_f32_d1 x) arg0
  v0

def fn_sort_0 {F : FTy → Type} [FloatOps F] (arg0 : FVec F S1024x2x8192 .f32) : FVec F S1024x2x8192 .f32 :=
  let v0 : FVec F S1024x2x8192 .f32 := (fun x => Host.sort S1024x2x8192 2 comparator_f32_d2 x) arg0
  v0

def fn_sort_1 {F : FTy → Type} [FloatOps F] (arg0 : FVec F S1024x2x128x64 .f32) : FVec F S1024x2x128x64 .f32 :=
  let v0 : FVec F S1024x2x128x64 .f32 := (fun x => Host.sort S1024x2x128x64 2 comparator_f32_d2 x) arg0
  v0

def fn {F : FTy → Type} [FloatOps F] (main_arg0 : FVec F S1024x16384 .f32) : IVec S1024x16384 1 × IVec S1024x2x8191 1 × IVec S1024x2x64 1 :=
  let main_v0 : FVec F S1024x16384 .f32 := fn_sort (F := F) main_arg0
  let main_v1 : FVec F S1024x1 .f32 := (extractStridedSlice S1024x1 ![0, 16352] · slices_S1024x16384_S1024x1_0_16352) main_v0
  let main_v2 : FVec F S1024x2x8192 .f32 := shapeCast S1024x2x8192 main_arg0 shapeCasts_S1024x16384_S1024x2x8192
  let main_v3 : FVec F S1024x2x8192 .f32 := fn_sort_0 (F := F) main_v2
  let main_v4 : FVec F S1024x2x8191 .f32 := (extractStridedSlice S1024x2x8191 ![0, 0, 0] · slices_S1024x2x8192_S1024x2x8191_0_0_0) main_v3
  let main_v5 : FVec F S1024x2x8191 .f32 := (extractStridedSlice S1024x2x8191 ![0, 0, 1] · slices_S1024x2x8192_S1024x2x8191_0_0_1) main_v3
  let main_v6 : IVec S1024x2x8191 1 := cmpf .olt main_v4 main_v5
  let main_v7 : FVec F S1024x2x8191 .f32 := (extractStridedSlice S1024x2x8191 ![0, 0, 1] · slices_S1024x2x8192_S1024x2x8191_0_0_1) main_v3
  let main_v8 : FVec F S1024x1x1 .f32 := broadcastInDim S1024x1x1 ![0, 1] bcast_S1024x1_S1024x1x1_0_1 main_v1
  let main_v9 : FVec F S1024x2x8191 .f32 := broadcastInDim S1024x2x8191 ![0, 1, 2] bcast_S1024x1x1_S1024x2x8191_0_1_2 main_v8
  let main_v10 : IVec S1024x2x8191 1 := cmpf .olt main_v7 main_v9
  let main_v11 : IVec S1024x2x8191 1 := ori main_v6 main_v10
  let main_v12 : FVec F S1024x2x128x64 .f32 := shapeCast S1024x2x128x64 main_arg0 shapeCasts_S1024x16384_S1024x2x128x64
  let main_v13 : FVec F S1024x2x128x64 .f32 := fn_sort_1 (F := F) main_v12
  let main_v14 : FVec F S1024x2x1x64 .f32 := (extractStridedSlice S1024x2x1x64 ![0, 0, 125, 0] · slices_S1024x2x128x64_S1024x2x1x64_0_0_125_0) main_v13
  let main_v15 : FVec F S1024x2x64 .f32 := shapeCast S1024x2x64 main_v14 shapeCasts_S1024x2x1x64_S1024x2x64
  let main_cst : FVec F S_ .f32 := constant S_ .f32 0x7F800000#32
  let main_v16 : FVec F S1024x16384 .f32 := broadcastInDim S1024x16384 ![] bcast_S_S1024x16384 main_cst
  let main_v17 : IVec S1024x16384 1 := cmpf .olt main_arg0 main_v16
  let main_v18 : FVec F S1024x1x1 .f32 := broadcastInDim S1024x1x1 ![0, 1] bcast_S1024x1_S1024x1x1_0_1 main_v1
  let main_v19 : FVec F S1024x2x64 .f32 := broadcastInDim S1024x2x64 ![0, 1, 2] bcast_S1024x1x1_S1024x2x64_0_1_2 main_v18
  let main_v20 : IVec S1024x2x64 1 := cmpf .olt main_v15 main_v19
  (main_v17, main_v11, main_v20)
-- ==== Kernel.lean ====
abbrev S1024x8192 : Shape := ⟨2, ![1024, 8192]⟩
abbrev S1024x32 : Shape := ⟨2, ![1024, 32]⟩
abbrev S1024x4096 : Shape := ⟨2, ![1024, 4096]⟩
abbrev S4x1024x32 : Shape := ⟨3, ![4, 1024, 32]⟩
abbrev S_ : Shape := ⟨0, ![]⟩
abbrev S2 : Shape := ⟨1, ![2]⟩
abbrev S1024x1 : Shape := ⟨2, ![1024, 1]⟩
abbrev S1024x1024 : Shape := ⟨2, ![1024, 1024]⟩
abbrev S1024x512 : Shape := ⟨2, ![1024, 512]⟩
abbrev S1024x256 : Shape := ⟨2, ![1024, 256]⟩
abbrev S1024x128 : Shape := ⟨2, ![1024, 128]⟩
abbrev S1024x64 : Shape := ⟨2, ![1024, 64]⟩
abbrev S1024 : Shape := ⟨1, ![1024]⟩
abbrev S1x1024x32 : Shape := ⟨3, ![1, 1024, 32]⟩
abbrev S1 : Shape := ⟨1, ![1]⟩
abbrev S1024x16 : Shape := ⟨2, ![1024, 16]⟩
abbrev S1024x24 : Shape := ⟨2, ![1024, 24]⟩
abbrev S1024x8 : Shape := ⟨2, ![1024, 8]⟩
abbrev S1024x28 : Shape := ⟨2, ![1024, 28]⟩
abbrev S1024x4 : Shape := ⟨2, ![1024, 4]⟩
abbrev S1024x30 : Shape := ⟨2, ![1024, 30]⟩
abbrev S1024x2 : Shape := ⟨2, ![1024, 2]⟩
abbrev S1024x31 : Shape := ⟨2, ![1024, 31]⟩

abbrev nBuf : Space → Nat
  | .hbm => 2
  | .vmem => 3
  | .smem => 0
  | _ => 0

abbrev bufTy : (tb : Table) → Fin (tcTables nBuf tb) → BufTy
  | .hbm, ⟨0, _⟩ => ⟨S1024x8192, .f32⟩
  | .hbm, ⟨1, _⟩ => ⟨S1024x32, .f32⟩
  | .local _ .vmem, ⟨0, _⟩ => ⟨S1024x32, .f32⟩
  | .local _ .vmem, ⟨1, _⟩ => ⟨S1024x4096, .f32⟩
  | .local _ .vmem, ⟨2, _⟩ => ⟨S4x1024x32, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v8 : BitVec 32 := Scalar.muli v2 c4096_i32
  ![0, v8.toNat]
def k0_dev1 (d0 : Dev nD) : Nat :=
  let c0_i32_6 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v11 : BitVec 32 := Scalar.muli v6 c2_i32_5
  let v12 : BitVec 32 := Scalar.addi c0_i32_6 v11
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7 : BitVec 32 := 1#32
  let v13 : BitVec 32 := Scalar.muli v5 c1_i32_7
  let v14 : BitVec 32 := Scalar.addi v12 v13
  v14.toNat
def k0_dev2 (d0 : Dev nD) : Nat :=
  let c0_i32_10 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_9 : BitVec 32 := 2#32
  let v15 : BitVec 32 := Scalar.muli v2 c2_i32_9
  let v16 : BitVec 32 := Scalar.addi c0_i32_10 v15
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_11 : BitVec 32 := 1#32
  let v17 : BitVec 32 := Scalar.muli v7 c1_i32_11
  let v18 : BitVec 32 := Scalar.addi v16 v17
  v18.toNat
def k0_dev3 (d0 : Dev nD) : Nat :=
  let c0_i32_126 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_125 : BitVec 32 := 2#32
  let v604 : BitVec 32 := Scalar.muli v6 c2_i32_125
  let v605 : BitVec 32 := Scalar.addi c0_i32_126 v604
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_127 : BitVec 32 := 1#32
  let v606 : BitVec 32 := Scalar.muli v5 c1_i32_127
  let v607 : BitVec 32 := Scalar.addi v605 v606
  v607.toNat
def k0_dev4 (d0 : Dev nD) : Nat :=
  let c0_i32_230 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_229 : BitVec 32 := 2#32
  let v908 : BitVec 32 := Scalar.muli v2 c2_i32_229
  let v909 : BitVec 32 := Scalar.addi c0_i32_230 v908
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_231 : BitVec 32 := 1#32
  let v910 : BitVec 32 := Scalar.muli v7 c1_i32_231
  let v911 : BitVec 32 := Scalar.addi v909 v910
  v911.toNat
abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x16384 : Shape := ⟨2, ![1024, 16384]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S1024x16384, .f32⟩
  | .hbm, ⟨2, _⟩ => ⟨S1024x16384, .i32⟩
  | .hbm, ⟨3, _⟩ => ⟨S1024x16384, .f32⟩
  | .hbm, ⟨4, _⟩ => ⟨S1024x16384, .i32⟩
  | .hbm, ⟨5, _⟩ => ⟨S1024x32, .i32⟩
  | .hbm, ⟨6, _⟩ => ⟨S_, .i32⟩
  | .hbm, ⟨7, _⟩ => ⟨S1024x32, .i32⟩
  | .hbm, ⟨8, _⟩ => ⟨S1024x32, .i1⟩
  | .hbm, ⟨9, _⟩ => ⟨S_, .i32⟩
  | .hbm, ⟨10, _⟩ => ⟨S1024x32, .i32⟩
  | .hbm, ⟨11, _⟩ => ⟨S1024x32, .i32⟩
  | .hbm, ⟨12, _⟩ => ⟨S1024x32, .i32⟩
  | .hbm, ⟨13, _⟩ => ⟨S1024x32x1, .i32⟩
  | .hbm, ⟨14, _⟩ => ⟨S1, .i32⟩
  | .hbm, ⟨15, _⟩ => ⟨S_, .i32⟩
  | .hbm, ⟨16, _⟩ => ⟨S1024x32x1, .i32⟩
  | .hbm, ⟨17, _⟩ => ⟨S1024x32x1, .i1⟩
  | .hbm, ⟨18, _⟩ => ⟨S1x1x1, .i32⟩
  | .hbm, ⟨19, _⟩ => ⟨S1024x32x1, .i32⟩
  | .hbm, ⟨20, _⟩ => ⟨S1024x32x1, .i1⟩
  | .hbm, ⟨21, _⟩ => ⟨S1024x32x1, .i1⟩
  | .hbm, ⟨22, _⟩ => ⟨S_, .i1⟩
  | .hbm, ⟨23, _⟩ => ⟨S1024x32, .i1⟩
  | .hbm, ⟨24, _⟩ => ⟨S1024x32, .f32⟩
  | .hbm, ⟨25, _⟩ => ⟨S_, .f32⟩
  | .hbm, ⟨26, _⟩ => ⟨S1024x32, .f32⟩
  | .hbm, ⟨27, _⟩ => ⟨S1024x32, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.ValuesI.lean ====
/- # The values of the kernel body, and the body with its values named

The generated skeleton hands its payloads from part to part. Here the stretch between two memory operations is one
function: `localSel` is the selection from the four quarters of the half block (the descending list, and the ascending
one as it is stored), `mergeA` the merge of the descending list with the list received from the other half (the
descending shard list, and the ascending one as it is stored), `mergeB` the merge with the list of the other shard.
`prog` is the body over these functions, and `cc0_body_eq_prog` says it is the body. -/
module

public import proofs.«01_k».proof.Proof.Gen.KernelIdeal
public import proofs.«01_k».proof.Proof.Gen.KernelIdeal.Skeleton

@[expose] public section

noncomputable section

namespace Cert.KernelIdeal.Own

open Cert.KernelIdeal Cert.KernelIdeal.Gen
open Idealize.ShloMosaic Idealize.ShloMosaic.TcCoe
open Idealize.SL.Sem

variable {F : FTy → Type} [FloatOps F]

/-- The lane numbers along a row of 32. -/
abbrev lanes : IVec S1024x32 32 := iota .tc S1024x32 32 [1] iota_S1024x32_d1_w32

/-- The candidates kept of a half block: per class of columns the two greatest of the tree. -/
def candOf (v23 v24 v25 v26 : Vec F S1024x1024 .f32) : FVec F S1024x128 .f32 :=
  k0_pay42 (k0_pay36 v23 v24 v25 v26) (k0_pay37 v23 v24 v25 v26) (k0_pay38 v23 v24 v25 v26) (k0_pay39 v23 v24 v25 v26) (k0_pay40 v23 v24 v25 v26) (k0_pay41 v23 v24 v25 v26)

/-- The half block's list: descending, and ascending as stored. -/
def localSel (v23 v24 v25 v26 : Vec F S1024x1024 .f32) : FVec F S1024x32 .f32 × FVec F S1x1024x32 .f32 :=
  let v20 := lanes
  let v21 : FVec F S1024x1 .f32 := k0_pay2
  let v22 : FVec F S1024x32 .f32 := k0_pay3
  let v79 := k0_pay36 v23 v24 v25 v26
  let v80 := k0_pay37 v23 v24 v25 v26
  let v81 := k0_pay38 v23 v24 v25 v26
  let v82 := k0_pay39 v23 v24 v25 v26
  let v83 := k0_pay40 v23 v24 v25 v26
  let v84 := k0_pay41 v23 v24 v25 v26
  let v88 := k0_pay42 v79 v80 v81 v82 v83 v84
  let v120 := k0_pay45 v20 v21 v22 v79 v80 v81 v82 v83 v84
  let v126 := k0_pay46 v21 v79 v80 v81 v82 v83 v84
  let v131 := k0_pay47 v20 v21 v22 v79 v80 v81 v82 v83 v84
  let v132 := k0_pay48
  let v168 := k0_pay51 v20 v88 v120 v126 v132
  let v174 := k0_pay52 v88 v126
  let v179 := k0_pay53 v20 v88 v126 v131
  let v180 := k0_pay54
  let v216 := k0_pay57 v20 v88 v168 v174 v180
  let v222 := k0_pay58 v88 v174
  let v227 := k0_pay59 v20 v88 v174 v179
  let v228 := k0_pay60
  let v264 := k0_pay63 v20 v88 v216 v222 v228
  let v270 := k0_pay64 v88 v222
  let v275 := k0_pay65 v20 v88 v222 v227
  let v276 := k0_pay66
  let v312 := k0_pay69 v20 v88 v264 v270 v276
  let v318 := k0_pay70 v88 v270
  let v323 := k0_pay71 v20 v88 v270 v275
  let v324 := k0_pay72
  let v360 := k0_pay75 v20 v88 v312 v318 v324
  let v366 := k0_pay76 v88 v318
  let v371 := k0_pay77 v20 v88 v318 v323
  let v372 := k0_pay78
  let v408 := k0_pay81 v20 v88 v360 v366 v372
  let v414 := k0_pay82 v88 v366
  let v419 := k0_pay83 v20 v88 v366 v371
  let v420 := k0_pay84
  let v456 := k0_pay87 v20 v88 v408 v414 v420
  let v462 := k0_pay88 v88 v414
  let v467 := k0_pay89 v20 v88 v414 v419
  let v468 := k0_pay90
  let v504 := k0_pay93 v20 v88 v456 v462 v468
  let v510 := k0_pay94 v88 v462
  let v515 := k0_pay95 v20 v88 v462 v467
  let v516 := k0_pay96
  let v552 := k0_pay99 v20 v88 v504 v510 v516
  let v558 := k0_pay100 v88 v510
  let v563 := k0_pay101 v20 v88 v510 v515
  let v564 := k0_pay102
  (k0_pay105 v20 v88 v558 v563, k0_pay106 v20 v88 v552 v558 v564)

/-- The merge with the other half's list: descending, and ascending as stored. -/
def mergeA (v595 : FVec F S1024x32 .f32) (v632 : Vec F S1x1024x32 .f32) : FVec F S1024x32 .f32 × FVec F S1x1024x32 .f32 :=
  let v20 := lanes
  let v634 := k0_pay107 v595 v632
  let v635 := k0_pay108 v595 v632
  let v661 := k0_pay109 v20 v634 v635
  let v664 := k0_pay110 v20 v634 v635
  let v667 := k0_pay111 v20 v634 v635
  let v671 := k0_pay112 v20
  let v680 := k0_pay113 v20
  let v682 := k0_pay114 v20
  let v722 : BitVec 1 := Scalar.cmpi .eq 4#32 0#32
  let v723 : BitVec 32 := Scalar.select v722 1#32 4#32
  let v715 := k0_pay115 v20 v661 v664 v667 v671 v680 v682
  let v718 := k0_pay116 v20 v661 v664 v667 v671 v680 v682
  let v721 := k0_pay117 v20 v661 v664 v667 v671 v680 v682
  let v725 := k0_pay118 v20
  let v727 := k0_pay119 v20
  let v729 := k0_pay120 v20
  let v776 : BitVec 1 := Scalar.cmpi .eq 32#32 0#32
  let v777 : BitVec 32 := Scalar.select v776 1#32 32#32
  let v769 := k0_pay121 v20 v715 v718 v721 v723 v725 v727 v729
  let v772 := k0_pay122 v634
  let v775 := k0_pay123 v634
  let v823 := k0_pay124 v20 v634 v772 v775 v777
  let v826 := k0_pay125 v20 v634 v772 v775 v777
  let v850 := k0_pay126 v20 v823 v826
  let v853 := k0_pay127 v20 v823 v826
  let v856 := k0_pay128 v20 v823 v826
  let v872 := k0_pay129 v20
  let c2_i32_215 := 2#32
  (v769, k0_pay130 v20 v850 v853 v856 v872 c2_i32_215)

/-- The merge with the other shard's list, descending. -/
def mergeB (v769 : FVec F S1024x32 .f32) (v936 : Vec F S1x1024x32 .f32) : FVec F S1024x32 .f32 :=
  let v20 := lanes
  let v938 := k0_pay131 v769 v936
  let v941 := k0_pay132 v769 v936
  let v944 := k0_pay133 v769 v936
  let v965 := k0_pay134 v20 v938 v941 v944
  let v971 := k0_pay135 v20 v938 v941 v944
  let v989 := k0_pay136 v20
  let v990 := k0_pay137 v20 v938 v941 v944
  let v1026 : BitVec 1 := Scalar.cmpi .eq 4#32 0#32
  let v1027 : BitVec 32 := Scalar.select v1026 1#32 4#32
  let v1019 := k0_pay138 v20 v965 v971 v989 v990
  let v1022 := k0_pay139 v20 v965 v971 v989 v990
  let v1025 := k0_pay140 v20 v965 v971 v989 v990
  let v1029 := k0_pay141 v20
  let v1031 := k0_pay142 v20
  let v1037 := k0_pay143 v20
  let v1046 := k0_pay144 v1019 v1022 v1025 v1027 v1029 v1031 v1037
  let v1049 := k0_pay145 v1019 v1022 v1025 v1027 v1029 v1031 v1037
  let v1052 := k0_pay146 v1019 v1022 v1025 v1027 v1029 v1031 v1037
  let v1056 := k0_pay147 v20
  let v1065 := k0_pay148 v20
  let v1067 := k0_pay149 v20
  k0_pay1 v1046 v1049 v1052 v1056 v1065 v1067

/-- The body, its memory operations in program order over the named values. -/
def prog (arg0 : Memref sig .tc .hbm S1024x8192 .f32) (harg0 : arg0.IsWhole) (arg1 : Memref sig .tc .vmem S1024x32 .f32) (harg1 : arg1.IsWhole) (arg2 : Memref sig .tc .vmem S1024x4096 .f32) (harg2 : arg2.IsWhole) (arg3 : Memref sig .tc .vmem S4x1024x32 .f32) (harg3 : arg3.IsWhole) (arg4 : DmaSems sig S_) (arg5 : DmaSems sig S2) (arg6 : DmaSems sig S2) :
    Prog (TpuEff nD τ sig (Elt F) Λ₀ .tc) PUnit := do
  let d0 : Dev nD ← Prog.lift .deviceId
  let v9 : Memref sig .tc .hbm S1024x4096 .f32 := arg0.slice (Rect.unit (s := S1024x8192) (k0_off1 d0) S1024x4096.size (k0_off1_inb d0)) (fun _ => rfl)
  Prog.lift (.enqueueDma v9 (.here arg2) (.dma arg4.sem) (View.wordExact_bits rfl) harg2.wordExact ⟨Or.inl rfl, trivial⟩)
  let v10 : Sems sig S_ := SemArray.scalar (sig.barrier 0 rfl)
  semSignalWord (⟨k0_dev1 d0, k0_dev1_lt d0⟩ : Dev nD) v10.sem 1#32
  semSignalWord (⟨k0_dev2 d0, k0_dev2_lt d0⟩ : Dev nD) v10.sem 1#32
  semWaitWord v10.sem 2#32
  let v19 : Memref sig .tc .hbm S1024x4096 .f32 := arg0.slice (Rect.unit (s := S1024x8192) (k0_off1 d0) S1024x4096.size (k0_off1_inb d0)) (fun _ => rfl)
  Prog.lift (.waitDma2 arg4.sem v19 arg2 (View.wordExact_bits rfl) harg2.wordExact)
  let v23 : Vec F S1024x1024 .f32 ← Prog.lift (.load arg2 (Rect.unit (s := S1024x4096) ![0, 0] S1024x1024.size inb_S1024x4096_S1024x1024_0_0).toLoadRect (View.loadsAt_vmem h_S1024x1024))
  let v24 : Vec F S1024x1024 .f32 ← Prog.lift (.load arg2 (Rect.unit (s := S1024x4096) ![0, 1024] S1024x1024.size inb_S1024x4096_S1024x1024_0_1024).toLoadRect (View.loadsAt_vmem h_S1024x1024))
  let v25 : Vec F S1024x1024 .f32 ← Prog.lift (.load arg2 (Rect.unit (s := S1024x4096) ![0, 2048] S1024x1024.size inb_S1024x4096_S1024x1024_0_2048).toLoadRect (View.loadsAt_vmem h_S1024x1024))
  let v26 : Vec F S1024x1024 .f32 ← Prog.lift (.load arg2 (Rect.unit (s := S1024x4096) ![0, 3072] S1024x1024.size inb_S1024x4096_S1024x1024_0_3072).toLoadRect (View.loadsAt_vmem h_S1024x1024))
  let v601 : Vec F S1x1024x32 .f32 ← Prog.lift (.load arg3 (Rect.unit (s := S4x1024x32) ![0, 0, 0] S1x1024x32.size inb_S4x1024x32_S1x1024x32_0_0_0).toLoadRect (View.loadsAt_vmem h_S1x1024x32))
  Prog.lift (.store arg3 (Rect.unit (s := S4x1024x32) ![0, 0, 0] S1x1024x32.size inb_S4x1024x32_S1x1024x32_0_0_0) (localSel v23 v24 v25 v26).2 Finset.univ (View.stores_vmem_bits_univ h_S1x1024x32 rfl) (.inl rfl))
  let v608 : DmaSems sig S1 := arg5.slice (Rect.unit (s := S2) ![0] S1.size inb_S2_S1_0)
  let v609 : DmaSems sig S_ := v608.squeeze S_ squeezes_S1_S_
  let v610 : DmaSems sig S1 := arg6.slice (Rect.unit (s := S2) ![0] S1.size inb_S2_S1_0)
  let v611 : DmaSems sig S_ := v610.squeeze S_ squeezes_S1_S_
  let v612 : Memref sig .tc .vmem S1x1024x32 .f32 := arg3.slice (Rect.unit (s := S4x1024x32) ![1, 0, 0] S1x1024x32.size inb_S4x1024x32_S1x1024x32_1_0_0) (fun _ => rfl)
  let v613 : Memref sig .tc .vmem S1024x32 .f32 := v612.squeeze S1024x32 squeezes_S1x1024x32_S1024x32
  let v614 : Memref sig .tc .vmem S1x1024x32 .f32 := arg3.slice (Rect.unit (s := S4x1024x32) ![0, 0, 0] S1x1024x32.size inb_S4x1024x32_S1x1024x32_0_0_0) (fun _ => rfl)
  let v615 : Memref sig .tc .vmem S1024x32 .f32 := v614.squeeze S1024x32 squeezes_S1x1024x32_S1024x32
  Prog.lift (.enqueueDma v615 (.remote (Dev.tc (⟨k0_dev3 d0, k0_dev3_lt d0⟩ : Dev nD)) v613 (.dma v609.sem)) (.dma v611.sem) ((View.wordExact_bits rfl).reshape _ _) ((View.wordExact_bits rfl).reshape _ _) ⟨⟨rfl, Or.inl rfl⟩, trivial⟩)
  let v616 : DmaSems sig S1 := arg5.slice (Rect.unit (s := S2) ![0] S1.size inb_S2_S1_0)
  let v617 : DmaSems sig S_ := v616.squeeze S_ squeezes_S1_S_
  let v618 : Memref sig .tc .vmem S1x1024x32 .f32 := arg3.slice (Rect.unit (s := S4x1024x32) ![0, 0, 0] S1x1024x32.size inb_S4x1024x32_S1x1024x32_0_0_0) (fun _ => rfl)
  let v619 : Memref sig .tc .vmem S1024x32 .f32 := v618.squeeze S1024x32 squeezes_S1x1024x32_S1024x32
  let v620 : Memref sig .tc .vmem S1x1024x32 .f32 := arg3.slice (Rect.unit (s := S4x1024x32) ![1, 0, 0] S1x1024x32.size inb_S4x1024x32_S1x1024x32_1_0_0) (fun _ => rfl)
  let v621 : Memref sig .tc .vmem S1024x32 .f32 := v620.squeeze S1024x32 squeezes_S1x1024x32_S1024x32
  Prog.lift (.waitDma2 v617.sem v621 v619 ((View.wordExact_bits rfl).reshape _ _) ((View.wordExact_bits rfl).reshape _ _))
  let v626 : DmaSems sig S1 := arg6.slice (Rect.unit (s := S2) ![0] S1.size inb_S2_S1_0)
  let v627 : DmaSems sig S_ := v626.squeeze S_ squeezes_S1_S_
  let v628 : Memref sig .tc .vmem S1x1024x32 .f32 := arg3.slice (Rect.unit (s := S4x1024x32) ![1, 0, 0] S1x1024x32.size inb_S4x1024x32_S1x1024x32_1_0_0) (fun _ => rfl)
  let v629 : Memref sig .tc .vmem S1024x32 .f32 := v628.squeeze S1024x32 squeezes_S1x1024x32_S1024x32
  let v630 : Memref sig .tc .vmem S1x1024x32 .f32 := arg3.slice (Rect.unit (s := S4x1024x32) ![0, 0, 0] S1x1024x32.size inb_S4x1024x32_S1x1024x32_0_0_0) (fun _ => rfl)
  let v631 : Memref sig .tc .vmem S1024x32 .f32 := v630.squeeze S1024x32 squeezes_S1x1024x32_S1024x32
  Prog.lift (.waitDma2 v627.sem v631 v629 ((View.wordExact_bits rfl).reshape _ _) ((View.wordExact_bits rfl).reshape _ _))
  let v632 : Vec F S1x1024x32 .f32 ← Prog.lift (.load arg3 (Rect.unit (s := S4x1024x32) ![1, 0, 0] S1x1024x32.size inb_S4x1024x32_S1x1024x32_1_0_0).toLoadRect (View.loadsAt_vmem h_S1x1024x32))
  let v905 : Vec F S1x1024x32 .f32 ← Prog.lift (.load arg3 (Rect.unit (s := S4x1024x32) ![2, 0, 0] S1x1024x32.size inb_S4x1024x32_S1x1024x32_2_0_0).toLoadRect (View.loadsAt_vmem h_S1x1024x32))
  Prog.lift (.store arg3 (Rect.unit (s := S4x1024x32) ![2, 0, 0] S1x1024x32.size inb_S4x1024x32_S1x1024x32_2_0_0) (mergeA (localSel v23 v24 v25 v26).1 v632).2 Finset.univ (View.stores_vmem_bits_univ h_S1x1024x32 rfl) (.inl rfl))
  let v914 : DmaSems sig S1 := arg6.slice (Rect.unit (s := S2) ![1] S1.size inb_S2_S1_1)
  let v915 : DmaSems sig S_ := v914.squeeze S_ squeezes_S1_S_
  let v916 : Memref sig .tc .vmem S1x1024x32 .f32 := arg3.slice (Rect.unit (s := S4x1024x32) ![3, 0, 0] S1x1024x32.size inb_S4x1024x32_S1x1024x32_3_0_0) (fun _ => rfl)
  let v917 : Memref sig .tc .vmem S1024x32 .f32 := v916.squeeze S1024x32 squeezes_S1x1024x32_S1024x32
  let v918 : Memref sig .tc .vmem S1x1024x32 .f32 := arg3.slice (Rect.unit (s := S4x1024x32) ![2, 0, 0] S1x1024x32.size inb_S4x1024x32_S1x1024x32_2_0_0) (fun _ => rfl)
  let v919 : Memref sig .tc .vmem S1024x32 .f32 := v918.squeeze S1024x32 squeezes_S1x1024x32_S1024x32
  let v912 : DmaSems sig S1 := arg5.slice (Rect.unit (s := S2) ![1] S1.size inb_S2_S1_1)
  let v913 : DmaSems sig S_ := v912.squeeze S_ squeezes_S1_S_
  Prog.lift (.enqueueDma v919 (.remote (Dev.tc (⟨k0_dev4 d0, k0_dev4_lt d0⟩ : Dev nD)) v917 (.dma v913.sem)) (.dma v915.sem) ((View.wordExact_bits rfl).reshape _ _) ((View.wordExact_bits rfl).reshape _ _) ⟨⟨rfl, Or.inl rfl⟩, trivial⟩)
  let v920 : DmaSems sig S1 := arg5.slice (Rect.unit (s := S2) ![1] S1.size inb_S2_S1_1)
  let v921 : DmaSems sig S_ := v920.squeeze S_ squeezes_S1_S_
  let v922 : Memref sig .tc .vmem S1x1024x32 .f32 := arg3.slice (Rect.unit (s := S4x1024x32) ![2, 0, 0] S1x1024x32.size inb_S4x1024x32_S1x1024x32_2_0_0) (fun _ => rfl)
  let v923 : Memref sig .tc .vmem S1024x32 .f32 := v922.squeeze S1024x32 squeezes_S1x1024x32_S1024x32
  let v924 : Memref sig .tc .vmem S1x1024x32 .f32 := arg3.slice (Rect.unit (s := S4x1024x32) ![3, 0, 0] S1x1024x32.size inb_S4x1024x32_S1x1024x32_3_0_0) (fun _ => rfl)
  let v925 : Memref sig .tc .vmem S1024x32 .f32 := v924.squeeze S1024x32 squeezes_S1x1024x32_S1024x32
  Prog.lift (.waitDma2 v921.sem v925 v923 ((View.wordExact_bits rfl).reshape _ _) ((View.wordExact_bits rfl).reshape _ _))
  let v930 : DmaSems sig S1 := arg6.slice (Rect.unit (s := S2) ![1] S1.size inb_S2_S1_1)
  let v931 : DmaSems sig S_ := v930.squeeze S_ squeezes_S1_S_
  let v932 : Memref sig .tc .vmem S1x1024x32 .f32 := arg3.slice (Rect.unit (s := S4x1024x32) ![3, 0, 0] S1x1024x32.size inb_S4x1024x32_S1x1024x32_3_0_0) (fun _ => rfl)
  let v933 : Memref sig .tc .vmem S1024x32 .f32 := v932.squeeze S1024x32 squeezes_S1x1024x32_S1024x32
  let v934 : Memref sig .tc .vmem S1x1024x32 .f32 := arg3.slice (Rect.unit (s := S4x1024x32) ![2, 0, 0] S1x1024x32.size inb_S4x1024x32_S1x1024x32_2_0_0) (fun _ => rfl)
  let v935 : Memref sig .tc .vmem S1024x32 .f32 := v934.squeeze S1024x32 squeezes_S1x1024x32_S1024x32
  Prog.lift (.waitDma2 v931.sem v935 v933 ((View.wordExact_bits rfl).reshape _ _) ((View.wordExact_bits rfl).reshape _ _))
  let v936 : Vec F S1x1024x32 .f32 ← Prog.lift (.load arg3 (Rect.unit (s := S4x1024x32) ![3, 0, 0] S1x1024x32.size inb_S4x1024x32_S1x1024x32_3_0_0).toLoadRect (View.loadsAt_vmem h_S1x1024x32))
  let v1074 : Vec F S1024x32 .f32 ← Prog.lift (.load arg1 (Rect.unit (s := S1024x32) ![0, 0] S1024x32.size inb_S1024x32_S1024x32_0_0).toLoadRect (View.loadsAt_vmem h_S1024x32))
  Prog.lift (.store arg1 (Rect.unit (s := S1024x32) ![0, 0] S1024x32.size inb_S1024x32_S1024x32_0_0) (mergeB (mergeA (localSel v23 v24 v25 v26).1 v632).1 v936) Finset.univ (View.stores_vmem_bits_univ h_S1024x32 rfl) (.inl rfl))
  pure ⟨⟩

set_option maxRecDepth 65536 in
/-- The kernel body is that. -/
theorem cc0_body_eq_prog : cc0_body (F := F) = prog (F := F) := cc0_body_eq_skeleton.trans rfl

end Cert.KernelIdeal.Own

end
-- ==== Proof.ProtocolI.lean ====
/- # The protocol of the kernel

Device `c = 2x + y` holds half `x` of the columns of shard `y`. `xn c` is the device with the other half of the same
shard, `yn c` the device with the same half of the other shard. Six semaphores per device:

* the barrier: both neighbours signal one unit, the device waits for two. With its unit `xn c` hands over its own slot 1
  and that it is at round 0 of its receive semaphore a, `yn c` its own slot 3 and receive semaphore b.
* the copy semaphore: the device's own copy of its half block into the scratch lands on it; the landing hands over the
  scratch holding the half block, and the half block of the argument back.
* send a / receive a: the transfer of slot 0 to slot 1 of `xn c`. The landing hands `xn c` its slot 1 holding the
  ascending list of `c`; the send hands slot 0 back.
* send b / receive b: the transfer of slot 2 to slot 3 of `yn c`. The landing hands `yn c` its slot 3 holding the
  ascending shard list of `c`; the send hands slot 2 back.

Order of the waits of a device: barrier, copy, send a, receive a, send b, receive b. A device owes, at launch, one unit
to each neighbour's barrier and the credit of a slot to receive a of `xn c` and receive b of `yn c`; levels: barrier 1,
receive a 2, receive b 3, the others 0. -/
module

public import proofs.«01_k».proof.Proof.Gen.KernelIdeal
public import proofs.«01_k».proof.Proof.Gen.KernelIdeal.Skeleton
public import proofs.«01_k».proof.Proof.Gen.KernelIdeal.Launch
public import proofs.«01_k».proof.Proof.ValuesI
public import Idealize.ShloMosaic.Lib.Pipeline.Launch
public import Idealize.ShloMosaic.Lib.Pipeline.Kit
public import Idealize.ShloMosaic.Lib.Tactic

@[expose] public section

noncomputable section

namespace Cert.KernelIdeal.Own

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## The neighbours -/

/-- The device with the other half of the same shard. -/
def xn (c : Dev nD) : Dev nD := ⟨k0_dev1 c, k0_dev1_lt c⟩
/-- The device with the same half of the other shard. -/
def yn (c : Dev nD) : Dev nD := ⟨k0_dev2 c, k0_dev2_lt c⟩

theorem xn_xn : ∀ c : Dev nD, xn (xn c) = c := by decide +kernel
theorem yn_yn : ∀ c : Dev nD, yn (yn c) = c := by decide +kernel
theorem xn_ne_yn : ∀ c : Dev nD, xn c ≠ yn c := by decide +kernel

theorem dev1_eq (c : Dev nD) : (⟨k0_dev1 c, k0_dev1_lt c⟩ : Dev nD) = xn c := rfl
theorem dev2_eq (c : Dev nD) : (⟨k0_dev2 c, k0_dev2_lt c⟩ : Dev nD) = yn c := rfl
theorem dev3_eq (c : Dev nD) : (⟨k0_dev3 c, k0_dev3_lt c⟩ : Dev nD) = xn c := Fin.ext ((k0_dev3_eq c).trans (k0_dev1_eq c).symm)
theorem dev4_eq (c : Dev nD) : (⟨k0_dev4 c, k0_dev4_lt c⟩ : Dev nD) = yn c := Fin.ext ((k0_dev4_eq c).trans (k0_dev2_eq c).symm)

def swapX : Dev nD ≃ Dev nD := ⟨xn, xn, xn_xn, xn_xn⟩
def swapY : Dev nD ≃ Dev nD := ⟨yn, yn, yn_yn, yn_yn⟩

theorem eq_xn_iff {a b : Dev nD} : Iff (xn a = b) (a = xn b) := ⟨fun h => by rw [← h, xn_xn], fun h => by rw [h, xn_xn]⟩
theorem eq_yn_iff {a b : Dev nD} : Iff (yn a = b) (a = yn b) := ⟨fun h => by rw [← h, yn_yn], fun h => by rw [h, yn_yn]⟩

/-! ## Memrefs and semaphores -/

abbrev aM : Memref sig .tc .hbm S1024x8192 .f32 := Memref.whole main_arg0
abbrev oM : Memref sig .tc .vmem S1024x32 .f32 := Memref.whole cc0_stg0_0
abbrev hM : Memref sig .tc .vmem S1024x4096 .f32 := Memref.whole cc0_scratch0
abbrev cM : Memref sig .tc .vmem S4x1024x32 .f32 := Memref.whole cc0_scratch1
/-- The half of the argument's columns device `c` works on. -/
abbrev srcM (c : Dev nD) : Memref sig .tc .hbm S1024x4096 .f32 :=
  aM.slice (Rect.unit (s := S1024x8192) (k0_off1 c) S1024x4096.size (k0_off1_inb c)) (fun _ => rfl)

abbrev rc0 : Rect S4x1024x32 := Rect.unit (s := S4x1024x32) ![0, 0, 0] S1x1024x32.size inb_S4x1024x32_S1x1024x32_0_0_0
abbrev rc1 : Rect S4x1024x32 := Rect.unit (s := S4x1024x32) ![1, 0, 0] S1x1024x32.size inb_S4x1024x32_S1x1024x32_1_0_0
abbrev rc2 : Rect S4x1024x32 := Rect.unit (s := S4x1024x32) ![2, 0, 0] S1x1024x32.size inb_S4x1024x32_S1x1024x32_2_0_0
abbrev rc3 : Rect S4x1024x32 := Rect.unit (s := S4x1024x32) ![3, 0, 0] S1x1024x32.size inb_S4x1024x32_S1x1024x32_3_0_0
abbrev sl0 : Memref sig .tc .vmem S1024x32 .f32 := (cM.slice rc0 (fun _ => rfl)).squeeze S1024x32 squeezes_S1x1024x32_S1024x32
abbrev sl1 : Memref sig .tc .vmem S1024x32 .f32 := (cM.slice rc1 (fun _ => rfl)).squeeze S1024x32 squeezes_S1x1024x32_S1024x32
abbrev sl2 : Memref sig .tc .vmem S1024x32 .f32 := (cM.slice rc2 (fun _ => rfl)).squeeze S1024x32 squeezes_S1x1024x32_S1024x32
abbrev sl3 : Memref sig .tc .vmem S1024x32 .f32 := (cM.slice rc3 (fun _ => rfl)).squeeze S1024x32 squeezes_S1x1024x32_S1024x32

abbrev barS : Sem sig := (SemArray.scalar (sig.barrier 0 rfl) : Sems sig S_).sem
abbrev cpS : DmaSems sig S_ := cc0_scratch2
abbrev saS : DmaSems sig S_ := (cc0_scratch3.slice (Rect.unit (s := S2) ![0] S1.size inb_S2_S1_0)).squeeze S_ squeezes_S1_S_
abbrev sbS : DmaSems sig S_ := (cc0_scratch3.slice (Rect.unit (s := S2) ![1] S1.size inb_S2_S1_1)).squeeze S_ squeezes_S1_S_
abbrev raS : DmaSems sig S_ := (cc0_scratch4.slice (Rect.unit (s := S2) ![0] S1.size inb_S2_S1_0)).squeeze S_ squeezes_S1_S_
abbrev rbS : DmaSems sig S_ := (cc0_scratch4.slice (Rect.unit (s := S2) ![1] S1.size inb_S2_S1_1)).squeeze S_ squeezes_S1_S_

/-- The six semaphores: barrier, copy, send a, receive a, send b, receive b. -/
abbrev csem : Fin 6 → SemLoc sig := fun
  | 0 => .reg barS | 1 => .dma cpS.sem | 2 => .dma saS.sem | 3 => .dma raS.sem | 4 => .dma sbS.sem | 5 => .dma rbS.sem
/-- The five of them that belong to the kernel. -/
abbrev osem : Fin 5 → SemLoc sig := fun
  | 0 => .dma cpS.sem | 1 => .dma saS.sem | 2 => .dma raS.sem | 3 => .dma sbS.sem | 4 => .dma rbS.sem
abbrev kcell (ck : Dev nD × Fin 6) : GSem nD τ sig := ((ck.1 : Thread nD τ), csem ck.2)
abbrev barC (c : Dev nD) : GSem nD τ sig := ((c : Thread nD τ), .reg barS)
abbrev cpC (c : Dev nD) : GSem nD τ sig := ((c : Thread nD τ), .dma cpS.sem)
abbrev saC (c : Dev nD) : GSem nD τ sig := ((c : Thread nD τ), .dma saS.sem)
abbrev raC (c : Dev nD) : GSem nD τ sig := ((c : Thread nD τ), .dma raS.sem)
abbrev sbC (c : Dev nD) : GSem nD τ sig := ((c : Thread nD τ), .dma sbS.sem)
abbrev rbC (c : Dev nD) : GSem nD τ sig := ((c : Thread nD τ), .dma rbS.sem)

theorem csem_inj : ∀ i j : Fin 6, csem i = csem j → i = j := by decide

/-- The credit of a slot, and of the half block. -/
@[irreducible] def NS : ℕ := (sl0 : Memref sig .tc .vmem S1024x32 .f32).view.dmaCredit
@[irreducible] def NH : ℕ := (hM : Memref sig .tc .vmem S1024x4096 .f32).view.dmaCredit
theorem NS_pos : 0 < NS := by unfold NS; exact View.dmaCredit_pos _ (Shape.numel_pos (by decide))
theorem NH_pos : 0 < NH := by unfold NH; exact View.dmaCredit_pos _ (Shape.numel_pos (by decide))

/-! ## Contents -/

/-- The half block device `c` works on. -/
def halfOf (c : Dev nD) : Vec F S1024x4096 .f32 := (srcM c).view.read (Elt F) (m ((c : Thread nD τ).loc main_arg0))

/-- Its four quarters as the kernel loads them. -/
def quarter0 (h : Vec F S1024x4096 .f32) : Vec F S1024x1024 .f32 :=
  (hM : Memref sig .tc .vmem S1024x4096 .f32).view.readAt (Elt F) (Rect.unit (s := S1024x4096) ![0, 0] S1024x1024.size inb_S1024x4096_S1024x1024_0_0).toLoadRect h
def quarter1 (h : Vec F S1024x4096 .f32) : Vec F S1024x1024 .f32 :=
  (hM : Memref sig .tc .vmem S1024x4096 .f32).view.readAt (Elt F) (Rect.unit (s := S1024x4096) ![0, 1024] S1024x1024.size inb_S1024x4096_S1024x1024_0_1024).toLoadRect h
def quarter2 (h : Vec F S1024x4096 .f32) : Vec F S1024x1024 .f32 :=
  (hM : Memref sig .tc .vmem S1024x4096 .f32).view.readAt (Elt F) (Rect.unit (s := S1024x4096) ![0, 2048] S1024x1024.size inb_S1024x4096_S1024x1024_0_2048).toLoadRect h
def quarter3 (h : Vec F S1024x4096 .f32) : Vec F S1024x1024 .f32 :=
  (hM : Memref sig .tc .vmem S1024x4096 .f32).view.readAt (Elt F) (Rect.unit (s := S1024x4096) ![0, 3072] S1024x1024.size inb_S1024x4096_S1024x1024_0_3072).toLoadRect h

/-- The list of a half block: descending, and ascending as stored in slot 0. -/
def listOf (h : Vec F S1024x4096 .f32) : FVec F S1024x32 .f32 × FVec F S1x1024x32 .f32 :=
  localSel (quarter0 h) (quarter1 h) (quarter2 h) (quarter3 h)
/-- The shard list of two half blocks: descending, and ascending as stored in slot 2. -/
def shardOf (h h' : Vec F S1024x4096 .f32) : FVec F S1024x32 .f32 × FVec F S1x1024x32 .f32 :=
  mergeA (listOf h).1 (listOf h').2
/-- The result from the four half blocks: the own half, the other half, and the same of the other shard. -/
def outOf (h₁ h₂ h₃ h₄ : Vec F S1024x4096 .f32) : FVec F S1024x32 .f32 :=
  mergeB (shardOf h₁ h₂).1 (shardOf h₃ h₄).2

/-- What device `c` computes. -/
def outAt (c : Dev nD) : (cc0_stg0_0 : Ref sig .tc).ty.Contents (Elt F) :=
  outOf (halfOf m c) (halfOf m (xn c)) (halfOf m (yn c)) (halfOf m (xn (yn c)))

/-- A stored slot as the transfers read it. -/
def flat (v : FVec F S1x1024x32 .f32) : FVec F S1024x32 .f32 := shapeCast S1024x32 v shapeCasts_S1x1024x32_S1024x32

omit [FloatOps F] in
theorem flat_injective : Function.Injective (flat (F := F)) := by
  intro v w h
  unfold flat shapeCast at h
  funext i
  obtain ⟨j, hj⟩ := (Shape.reshapeEquiv shapeCasts_S1x1024x32_S1024x32).surjective i
  rw [← hj]; exact congrFun h j

/-- A slot of device `c`, at any contents. -/
def slotAny (c : Dev nD) (M : Memref sig .tc .vmem S1024x32 .f32) : sProp 𝕄 :=
  iprop(∃ f : Buf (Elt F) (M.view.loc (c : Thread nD τ)), M.view.loc (c : Thread nD τ) ↦[M.view.set]{fullShare} f)
/-- A slot of device `c` that reads as `X`. -/
def slotIs (c : Dev nD) (M : Memref sig .tc .vmem S1024x32 .f32) (X : FVec F S1024x32 .f32) : sProp 𝕄 :=
  iprop(∃ f : Buf (Elt F) (M.view.loc (c : Thread nD τ)), ⌜M.view.read (Elt F) f = X⌝ ∗ (M.view.loc (c : Thread nD τ) ↦[M.view.set]{fullShare} f))

omit [FloatOps F] in
instance slotAny_storable (c : Dev nD) (M) : BI.Storable (upEmb : UEmb _ 𝕄) (slotAny (F := F) c M) := by unfold slotAny; infer_instance
omit [FloatOps F] in
instance slotIs_storable (c : Dev nD) (M) (X) : BI.Storable (upEmb : UEmb _ 𝕄) (slotIs (F := F) c M X) := by unfold slotIs; infer_instance

/-- The half block of the argument, as launched, and the scratch holding it. -/
def srcPts (c : Dev nD) : sProp 𝕄 :=
  (srcM c).view.loc (c : Thread nD τ) ↦[(srcM c).view.set]{fullShare} (m ((c : Thread nD τ).loc main_arg0))
def hPts (c : Dev nD) (f : Vec F S1024x4096 .f32) : sProp 𝕄 :=
  (hM : Memref sig .tc .vmem S1024x4096 .f32).view.loc (c : Thread nD τ) ↦[(hM : Memref sig .tc .vmem S1024x4096 .f32).view.set]{fullShare} (show Buf (Elt F) ((hM : Memref sig .tc .vmem S1024x4096 .f32).view.loc (c : Thread nD τ)) from f)

instance srcPts_storable (c : Dev nD) : BI.Storable (upEmb : UEmb _ 𝕄) (srcPts m c) := by unfold srcPts; infer_instance
instance hPts_storable (c : Dev nD) (f) : BI.Storable (upEmb : UEmb _ 𝕄) (hPts (F := F) c f) := by unfold hPts; infer_instance

/-! ## The schedule -/

def barPayX (c : Dev nD) : sProp 𝕄 := iprop(slotAny (xn c) sl1 ∗ reached ER (raC (xn c)) 0)
def barPayY (c : Dev nD) : sProp 𝕄 := iprop(slotAny (yn c) sl3 ∗ reached ER (rbC (yn c)) 0)
def cpPay (c : Dev nD) : sProp 𝕄 := iprop(hPts c (halfOf m c) ∗ srcPts m c)
def saPay (c : Dev nD) : sProp 𝕄 := slotAny c sl0
def raPay (c : Dev nD) : sProp 𝕄 := slotIs c sl1 (flat (listOf (halfOf m (xn c))).2)
def sbPay (c : Dev nD) : sProp 𝕄 := slotAny c sl2
def rbPay (c : Dev nD) : sProp 𝕄 := slotIs c sl3 (flat (shardOf (halfOf m (yn c)) (halfOf m (xn (yn c)))).2)

abbrev IsBar (g : GSem nD τ sig) : Prop := g.1.2 = .tc ∧ g.2 = .reg barS
abbrev IsXfer (g : GSem nD τ sig) : Prop :=
  g.1.2 = .tc ∧ (g.2 = .dma cpS.sem ∨ g.2 = .dma saS.sem ∨ g.2 = .dma raS.sem ∨ g.2 = .dma sbS.sem ∨ g.2 = .dma rbS.sem)

/-- One round. A barrier has the duties `false` (of `xn`) and `true` (of `yn`), one unit each; each of the other five one
    duty `false`, of the credit that lands on it. -/
def Rd : Rounds.Schedule (GSem nD τ sig) Bool 𝕄 where
  duties g r := if r = 0 ∧ IsBar g then Finset.univ else if r = 0 ∧ IsXfer g then {false} else ∅
  unitless _ := False
  amount g _ _ := if g.2 = .reg barS then 1 else if g.2 = .dma cpS.sem then NH else NS
  payload g _ d :=
    if g.2 = .reg barS then (if d then barPayY g.1.1 else barPayX g.1.1)
    else if g.2 = .dma cpS.sem then cpPay m g.1.1
    else if g.2 = .dma saS.sem then saPay g.1.1
    else if g.2 = .dma raS.sem then raPay m g.1.1
    else if g.2 = .dma sbS.sem then sbPay g.1.1
    else if g.2 = .dma rbS.sem then rbPay m g.1.1
    else iprop(emp)
  amount_pos g _ _ _ := by
    by_cases h : g.2 = .reg barS
    · rw [if_pos h]; exact Nat.one_pos
    · rw [if_neg h]
      by_cases h' : g.2 = .dma cpS.sem
      · rw [if_pos h']; exact NH_pos
      · rw [if_neg h']; exact NS_pos

instance Rd_payload_storable (g : GSem nD τ sig) (r : ℕ) (d : Bool) :
    BI.Storable (upEmb : UEmb _ 𝕄) ((Rd (F := F) m).payload g r d) := by
  show BI.Storable upEmb (if g.2 = .reg barS then (if d then barPayY g.1.1 else barPayX g.1.1)
    else if g.2 = .dma cpS.sem then cpPay m g.1.1
    else if g.2 = .dma saS.sem then saPay g.1.1
    else if g.2 = .dma raS.sem then raPay m g.1.1
    else if g.2 = .dma sbS.sem then sbPay g.1.1
    else if g.2 = .dma rbS.sem then rbPay m g.1.1
    else iprop(emp))
  unfold barPayX barPayY cpPay saPay raPay sbPay rbPay
  (repeat' split) <;> infer_instance

omit [FloatOps F] in
theorem expect_one (R : Rounds.Schedule (GSem nD τ sig) Bool 𝕄) (g : GSem nD τ sig) (a : ℕ) (hd : R.duties g 0 = {false})
    (ha : R.amount g 0 false = a) : R.expect g 0 = a := by
  subst ha; unfold Schedule.expect Schedule.amountOf; rw [hd, Finset.sum_singleton]

section Sched
variable (c : Dev nD)

theorem ne_sem {i j : Fin 6} (h : i ≠ j) : csem i ≠ csem j := fun h' => h (csem_inj i j h')

theorem duties_bar : (Rd (F := F) m).duties (barC c) 0 = Finset.univ := by dsimp only [Rd]; exact if_pos ⟨rfl, rfl, rfl⟩
theorem duties_cp : (Rd (F := F) m).duties (cpC c) 0 = {false} := by
  dsimp only [Rd]; rw [if_neg (fun h => ne_sem (i := 1) (j := 0) (by decide) h.2.2)]; exact if_pos ⟨rfl, rfl, .inl rfl⟩
theorem duties_sa : (Rd (F := F) m).duties (saC c) 0 = {false} := by
  dsimp only [Rd]; rw [if_neg (fun h => ne_sem (i := 2) (j := 0) (by decide) h.2.2)]; exact if_pos ⟨rfl, rfl, .inr (.inl rfl)⟩
theorem duties_ra : (Rd (F := F) m).duties (raC c) 0 = {false} := by
  dsimp only [Rd]; rw [if_neg (fun h => ne_sem (i := 3) (j := 0) (by decide) h.2.2)]; exact if_pos ⟨rfl, rfl, .inr (.inr (.inl rfl))⟩
theorem duties_sb : (Rd (F := F) m).duties (sbC c) 0 = {false} := by
  dsimp only [Rd]; rw [if_neg (fun h => ne_sem (i := 4) (j := 0) (by decide) h.2.2)]; exact if_pos ⟨rfl, rfl, .inr (.inr (.inr (.inl rfl)))⟩
theorem duties_rb : (Rd (F := F) m).duties (rbC c) 0 = {false} := by
  dsimp only [Rd]; rw [if_neg (fun h => ne_sem (i := 5) (j := 0) (by decide) h.2.2)]; exact if_pos ⟨rfl, rfl, .inr (.inr (.inr (.inr rfl)))⟩
theorem duties_later (g : GSem nD τ sig) : ∀ r, 1 ≤ r → (Rd (F := F) m).duties g r = ∅ :=
  fun r hr => by dsimp only [Rd]; rw [if_neg fun h => by omega, if_neg fun h => by omega]

theorem amount_bar (d : Bool) : (Rd (F := F) m).amount (barC c) 0 d = 1 := by dsimp only [Rd]; exact if_pos rfl
theorem amount_cp (d : Bool) : (Rd (F := F) m).amount (cpC c) 0 d = NH := by
  dsimp only [Rd]; rw [if_neg (ne_sem (i := 1) (j := 0) (by decide)), if_pos rfl]
theorem amount_sa (d : Bool) : (Rd (F := F) m).amount (saC c) 0 d = NS := by
  dsimp only [Rd]; rw [if_neg (ne_sem (i := 2) (j := 0) (by decide)), if_neg (ne_sem (i := 2) (j := 1) (by decide))]
theorem amount_ra (d : Bool) : (Rd (F := F) m).amount (raC c) 0 d = NS := by
  dsimp only [Rd]; rw [if_neg (ne_sem (i := 3) (j := 0) (by decide)), if_neg (ne_sem (i := 3) (j := 1) (by decide))]
theorem amount_sb (d : Bool) : (Rd (F := F) m).amount (sbC c) 0 d = NS := by
  dsimp only [Rd]; rw [if_neg (ne_sem (i := 4) (j := 0) (by decide)), if_neg (ne_sem (i := 4) (j := 1) (by decide))]
theorem amount_rb (d : Bool) : (Rd (F := F) m).amount (rbC c) 0 d = NS := by
  dsimp only [Rd]; rw [if_neg (ne_sem (i := 5) (j := 0) (by decide)), if_neg (ne_sem (i := 5) (j := 1) (by decide))]

theorem expect_bar : (Rd (F := F) m).expect (barC c) 0 = 2 := by
  unfold Schedule.expect Schedule.amountOf
  rw [duties_bar, Finset.sum_congr rfl fun d _ => amount_bar m c d, Finset.sum_const, Finset.card_univ, Fintype.card_bool, smul_eq_mul]
theorem expect_cp : (Rd (F := F) m).expect (cpC c) 0 = NH := expect_one _ _ _ (duties_cp m c) (amount_cp m c false)
theorem expect_sa : (Rd (F := F) m).expect (saC c) 0 = NS := expect_one _ _ _ (duties_sa m c) (amount_sa m c false)
theorem expect_ra : (Rd (F := F) m).expect (raC c) 0 = NS := expect_one _ _ _ (duties_ra m c) (amount_ra m c false)
theorem expect_sb : (Rd (F := F) m).expect (sbC c) 0 = NS := expect_one _ _ _ (duties_sb m c) (amount_sb m c false)
theorem expect_rb : (Rd (F := F) m).expect (rbC c) 0 = NS := expect_one _ _ _ (duties_rb m c) (amount_rb m c false)

theorem payload_bar_true : (Rd (F := F) m).payload (barC c) 0 true = barPayY c := by dsimp only [Rd]; rw [if_pos rfl, if_pos rfl]
theorem payload_bar_false : (Rd (F := F) m).payload (barC c) 0 false = barPayX c := by
  dsimp only [Rd]; rw [if_pos rfl]; exact if_neg Bool.false_ne_true
theorem payload_cp (d : Bool) : (Rd (F := F) m).payload (cpC c) 0 d = cpPay m c := by
  dsimp only [Rd]; rw [if_neg (ne_sem (i := 1) (j := 0) (by decide)), if_pos rfl]
theorem payload_sa (d : Bool) : (Rd (F := F) m).payload (saC c) 0 d = saPay c := by
  dsimp only [Rd]; rw [if_neg (ne_sem (i := 2) (j := 0) (by decide)), if_neg (ne_sem (i := 2) (j := 1) (by decide)), if_pos rfl]
theorem payload_ra (d : Bool) : (Rd (F := F) m).payload (raC c) 0 d = raPay m c := by
  dsimp only [Rd]; rw [if_neg (ne_sem (i := 3) (j := 0) (by decide)), if_neg (ne_sem (i := 3) (j := 1) (by decide)),
    if_neg (ne_sem (i := 3) (j := 2) (by decide)), if_pos rfl]
theorem payload_sb (d : Bool) : (Rd (F := F) m).payload (sbC c) 0 d = sbPay c := by
  dsimp only [Rd]; rw [if_neg (ne_sem (i := 4) (j := 0) (by decide)), if_neg (ne_sem (i := 4) (j := 1) (by decide)),
    if_neg (ne_sem (i := 4) (j := 2) (by decide)), if_neg (ne_sem (i := 4) (j := 3) (by decide)), if_pos rfl]
theorem payload_rb (d : Bool) : (Rd (F := F) m).payload (rbC c) 0 d = rbPay m c := by
  dsimp only [Rd]; rw [if_neg (ne_sem (i := 5) (j := 0) (by decide)), if_neg (ne_sem (i := 5) (j := 1) (by decide)),
    if_neg (ne_sem (i := 5) (j := 2) (by decide)), if_neg (ne_sem (i := 5) (j := 3) (by decide)), if_neg (ne_sem (i := 5) (j := 4) (by decide)), if_pos rfl]

theorem rest_bar : bigSep ((Rd (F := F) m).duties (barC c) 0 \ ∅) (fun d => (Rd (F := F) m).payload (barC c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl
theorem rest_cp : bigSep ((Rd (F := F) m).duties (cpC c) 0 \ ∅) (fun d => (Rd (F := F) m).payload (cpC c) 0 d) = cpPay m c := by
  rw [Finset.sdiff_empty, duties_cp, bigSep_singleton, payload_cp]
theorem rest_sa : bigSep ((Rd (F := F) m).duties (saC c) 0 \ ∅) (fun d => (Rd (F := F) m).payload (saC c) 0 d) = saPay c := by
  rw [Finset.sdiff_empty, duties_sa, bigSep_singleton, payload_sa]
theorem rest_ra : bigSep ((Rd (F := F) m).duties (raC c) 0 \ ∅) (fun d => (Rd (F := F) m).payload (raC c) 0 d) = raPay m c := by
  rw [Finset.sdiff_empty, duties_ra, bigSep_singleton, payload_ra]
theorem rest_sb : bigSep ((Rd (F := F) m).duties (sbC c) 0 \ ∅) (fun d => (Rd (F := F) m).payload (sbC c) 0 d) = sbPay c := by
  rw [Finset.sdiff_empty, duties_sb, bigSep_singleton, payload_sb]
theorem rest_rb : bigSep ((Rd (F := F) m).duties (rbC c) 0 \ ∅) (fun d => (Rd (F := F) m).payload (rbC c) 0 d) = rbPay m c := by
  rw [Finset.sdiff_empty, duties_rb, bigSep_singleton, payload_rb]

end Sched

/-! ## What each device owes at launch, and the levels -/

def O₃ (c : Dev nD) : CellTallies nD τ sig Unit := tallyAt (rbC (yn c)) () NS
def O₂ (c : Dev nD) : CellTallies nD τ sig Unit := O₃ c + tallyAt (raC (xn c)) () NS
def O₁ (c : Dev nD) : CellTallies nD τ sig Unit := O₂ c + tallyAt (barC (yn c)) () 1
def O₀ (c : Dev nD) : CellTallies nD τ sig Unit := O₁ c + tallyAt (barC (xn c)) () 1

def L (g : GSem nD τ sig) : Finset Unit := if g.1.2 = .tc then {()} else ∅
/-- Barrier 1, receive a 2, receive b 3, the others 0. -/
def lv (g : GSem nD τ sig) (_ : Unit) : ℕ :=
  if g.2 = .reg barS then 1 else if g.2 = .dma raS.sem then 2 else if g.2 = .dma rbS.sem then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barC c) u = 1 := by dsimp only [lv]; rw [if_pos rfl]
theorem lv_ra (c : Dev nD) (u : Unit) : lv (raC c) u = 2 := by
  dsimp only [lv]; rw [if_neg (ne_sem (i := 3) (j := 0) (by decide)), if_pos rfl]
theorem lv_rb (c : Dev nD) (u : Unit) : lv (rbC c) u = 3 := by
  dsimp only [lv]; rw [if_neg (ne_sem (i := 5) (j := 0) (by decide)), if_neg (ne_sem (i := 5) (j := 3) (by decide)), if_pos rfl]
theorem lv_cp (c : Dev nD) (u : Unit) : lv (cpC c) u = 0 := by
  dsimp only [lv]; rw [if_neg (ne_sem (i := 1) (j := 0) (by decide)), if_neg (ne_sem (i := 1) (j := 3) (by decide)), if_neg (ne_sem (i := 1) (j := 5) (by decide))]
theorem lv_sa (c : Dev nD) (u : Unit) : lv (saC c) u = 0 := by
  dsimp only [lv]; rw [if_neg (ne_sem (i := 2) (j := 0) (by decide)), if_neg (ne_sem (i := 2) (j := 3) (by decide)), if_neg (ne_sem (i := 2) (j := 5) (by decide))]

theorem tally_pos {g' g : GSem nD τ sig} {u : Unit} {k : ℕ} (h : 0 < (tallyAt g' () k : CellTallies nD τ sig Unit) g u) : g = g' := by
  rw [tallyAt_apply] at h
  by_contra hn
  rw [if_neg (fun h' => hn h'.1)] at h
  exact Nat.lt_irrefl 0 h
theorem add_tally_pos {O : CellTallies nD τ sig Unit} {g' g : GSem nD τ sig} {u : Unit} {k : ℕ} (h : 0 < (O + tallyAt g' () k) g u) :
    0 < O g u ∨ g = g' := by
  rw [Pi.add_apply, Finsupp.add_apply] at h
  rcases Nat.eq_zero_or_pos (O g u) with h0 | h0
  · rw [h0, Nat.zero_add] at h; exact .inr (tally_pos h)
  · exact .inl h0

theorem O₃_pos {c : Dev nD} {g : GSem nD τ sig} {u : Unit} (h : 0 < O₃ c g u) : g = rbC (yn c) := tally_pos h
theorem O₂_pos {c : Dev nD} {g : GSem nD τ sig} {u : Unit} (h : 0 < O₂ c g u) : g = rbC (yn c) ∨ g = raC (xn c) :=
  (add_tally_pos h).imp O₃_pos id
theorem O₀_pos {c : Dev nD} {g : GSem nD τ sig} {u : Unit} (h : 0 < O₀ c g u) :
    g = rbC (yn c) ∨ g = raC (xn c) ∨ g = barC (yn c) ∨ g = barC (xn c) := by
  rcases add_tally_pos h with h | h
  · rcases add_tally_pos h with h | h
    · exact (O₂_pos h).imp id .inl
    · exact .inr (.inr (.inl h))
  · exact .inr (.inr (.inr h))

omit [FloatOps F] in
/-- A device may wait on a semaphore whose level is below those of all it owes. -/
theorem mayWait_of (c : Dev nD) (s : SemLoc sig) (n : ℕ) (O : CellTallies nD τ sig Unit) (hs : lv ((c : Thread nD τ), s) () ≤ n)
    (hO : ∀ (g : GSem nD τ sig) (u : Unit), 0 < O g u → g.1.2 = .tc ∧ n < lv g u) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

omit [FloatOps F] in
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine mayWait_of c _ 0 _ (le_of_eq hq) fun g u hg => ?_
    rcases O₀_pos hg with rfl | rfl | rfl | rfl
    · exact ⟨rfl, by rw [lv_rb]; decide⟩
    · exact ⟨rfl, by rw [lv_ra]; decide⟩
    · exact ⟨rfl, by rw [lv_bar]; decide⟩
    · exact ⟨rfl, by rw [lv_bar]; decide⟩
  · rw [MayWait_zero]; iintro -; iempintro

omit [FloatOps F] in
theorem mayWait_bar (c : Dev nD) : (levAts L lv : sProp 𝕄) ⊢ MayWait (c : Thread nD τ) (.reg barS) () (O₂ c) :=
  mayWait_of c _ 1 _ (le_of_eq (lv_bar c ())) fun g u hg => by
    rcases O₂_pos hg with rfl | rfl
    · exact ⟨rfl, by rw [lv_rb]; decide⟩
    · exact ⟨rfl, by rw [lv_ra]; decide⟩
omit [FloatOps F] in
theorem mayWait_cp (c : Dev nD) : (levAts L lv : sProp 𝕄) ⊢ MayWait (c : Thread nD τ) (.dma cpS.sem) () (O₂ c) :=
  mayWait_of c _ 0 _ (le_of_eq (lv_cp c ())) fun g u hg => by
    rcases O₂_pos hg with rfl | rfl
    · exact ⟨rfl, by rw [lv_rb]; decide⟩
    · exact ⟨rfl, by rw [lv_ra]; decide⟩
omit [FloatOps F] in
theorem mayWait_sa (c : Dev nD) : (levAts L lv : sProp 𝕄) ⊢ MayWait (c : Thread nD τ) (.dma saS.sem) () (O₃ c) :=
  mayWait_of c _ 0 _ (le_of_eq (lv_sa c ())) fun g u hg => by
    rw [O₃_pos hg]; exact ⟨rfl, by rw [lv_rb]; decide⟩
omit [FloatOps F] in
theorem mayWait_ra (c : Dev nD) : (levAts L lv : sProp 𝕄) ⊢ MayWait (c : Thread nD τ) (.dma raS.sem) () (O₃ c) :=
  mayWait_of c _ 2 _ (le_of_eq (lv_ra c ())) fun g u hg => by
    rw [O₃_pos hg]; exact ⟨rfl, by rw [lv_rb]; decide⟩

/-! ## The pipeline's proof data -/

/-- The invariants a device's body opens: its own six, both neighbours' barriers, and the two receive cells it lands on. -/
def invs (K : Dev nD × Fin 6 → ℕ) (c : Dev nD) : sProp 𝕄 :=
  iprop(cellInv ER (Rd m) (K (c, 0)) (barC c) ∗ cellInv ER (Rd m) (K (c, 1)) (cpC c) ∗ cellInv ER (Rd m) (K (c, 2)) (saC c)
    ∗ cellInv ER (Rd m) (K (c, 3)) (raC c) ∗ cellInv ER (Rd m) (K (c, 4)) (sbC c) ∗ cellInv ER (Rd m) (K (c, 5)) (rbC c)
    ∗ cellInv ER (Rd m) (K (xn c, 0)) (barC (xn c)) ∗ cellInv ER (Rd m) (K (yn c, 0)) (barC (yn c))
    ∗ cellInv ER (Rd m) (K (xn c, 3)) (raC (xn c)) ∗ cellInv ER (Rd m) (K (yn c, 5)) (rbC (yn c)))

instance invs_persistent (K : Dev nD × Fin 6 → ℕ) (c : Dev nD) : BI.Persistent (invs m K c) := by unfold invs; infer_instance

def ats (c : Dev nD) : sProp 𝕄 :=
  iprop(atPos ER (barC c) 0 ∅ 0 ∗ atPos ER (cpC c) 0 ∅ 0 ∗ atPos ER (saC c) 0 ∅ 0 ∗ atPos ER (raC c) 0 ∅ 0 ∗ atPos ER (sbC c) 0 ∅ 0 ∗ atPos ER (rbC c) 0 ∅ 0)
def marks (c : Dev nD) : sProp 𝕄 :=
  iprop(reached ER (barC (xn c)) 0 ∗ reached ER (barC (yn c)) 0 ∗ reached ER (cpC c) 0 ∗ reached ER (saC c) 0 ∗ reached ER (raC c) 0
    ∗ reached ER (sbC c) 0 ∗ reached ER (rbC c) 0)
/-- The tokens of the duties a device pays. -/
def payToks (c : Dev nD) : sProp 𝕄 :=
  iprop(dutyTok ER (barC (xn c)) 0 false ∗ dutyTok ER (barC (yn c)) 0 true ∗ dutyTok ER (cpC c) 0 false ∗ dutyTok ER (saC c) 0 false
    ∗ dutyTok ER (raC (xn c)) 0 false ∗ dutyTok ER (sbC c) 0 false ∗ dutyTok ER (rbC (yn c)) 0 false)

instance marks_persistent (c : Dev nD) : BI.Persistent (marks (F := F) c) := by unfold marks; infer_instance

def ghost (K : Dev nD × Fin 6 → ℕ) (c : Dev nD) : sProp 𝕄 := iprop(invs m K c ∗ ats c ∗ marks c ∗ payToks c)

/-- The argument, whole, as launched. -/
def argPts (c : Dev nD) : sProp 𝕄 := ((c : Thread nD τ).loc main_arg0) ↦{fullShare} m ((c : Thread nD τ).loc main_arg0)

/-- What a device's body starts from besides its buffers. -/
def start (c : Dev nD) : sProp 𝕄 :=
  iprop((∃ K, ghost m K c) ∗ cred (tallyAt (barC c) () 2) ∗ cred (tallyAt (raC c) () NS) ∗ cred (tallyAt (rbC c) () NS) ∗ levAts L lv ∗ argPts m c)

def bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
def Φ₀ (c : Dev nD) : sProp 𝕄 := iprop(start m c ∗ bufs c)
/-- At the end: the buffers at some contents, the six semaphores at zero, the argument unchanged. -/
def Φ₁ (c : Dev nD) : sProp 𝕄 :=
  iprop(bufs c ∗ (semVal (barC c) 0 ∗ semVal (cpC c) 0 ∗ semVal (saC c) 0 ∗ semVal (raC c) 0 ∗ semVal (sbC c) 0 ∗ semVal (rbC c) 0) ∗ argPts m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdeal.Own

end
-- ==== Proof.StepsI.lean ====
/- # The steps of a device

The four slots of the transfer buffer, and one rule per transfer and per wait, at this kernel's semaphores. -/
module

public import proofs.«01_k».proof.Proof.ProtocolI
public import Idealize.ShloMosaic.Lib.Ring

@[expose] public section

noncomputable section

namespace Cert.KernelIdeal.Own

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The four slots -/

/-- The elements of slot `k`. -/
def slotSet : Fin 4 → Finset S4x1024x32.Idx := fun
  | 0 => rc0.set | 1 => rc1.set | 2 => rc2.set | 3 => rc3.set

theorem mem_slotSet (k : Fin 4) (y : S4x1024x32.Idx) : y ∈ slotSet k ↔ (y 0).val = k.val := by
  have h1 : (y 1).val < 1024 := (y 1).isLt
  have h2 : (y 2).val < 32 := (y 2).isLt
  have key : ∀ (n : ℕ) (inb : ∀ a, (![n, 0, 0] : Fin 3 → ℕ) a + S1x1024x32.size a ≤ S4x1024x32.size a),
      y ∈ (Rect.unit (s := S4x1024x32) ![n, 0, 0] S1x1024x32.size inb).set ↔ (y 0).val = n := by
    intro n inb
    rw [Rect.mem_set_unit]
    constructor
    · intro H; have a0 : n ≤ (y 0).val ∧ (y 0).val < n + 1 := H 0; omega
    · intro H i; fin_cases i
      · show n ≤ (y 0).val ∧ (y 0).val < n + 1; omega
      · show 0 ≤ (y 1).val ∧ (y 1).val < 0 + 1024; omega
      · show 0 ≤ (y 2).val ∧ (y 2).val < 0 + 32; omega
  fin_cases k
  · exact key 0 _
  · exact key 1 _
  · exact key 2 _
  · exact key 3 _

theorem slotSet_disjoint : ∀ b b' : Fin 4, b ≠ b' → Disjoint (slotSet b) (slotSet b') := by
  intro b b' hne; rw [Finset.disjoint_left]; intro y hy hy'; rw [mem_slotSet] at hy hy'; exact hne (Fin.ext (hy.symm.trans hy'))
theorem slotSet_cover : (Finset.univ : Finset (Fin 4)).biUnion slotSet = Finset.univ := by
  ext y; simp only [Finset.mem_biUnion, Finset.mem_univ, true_and, iff_true]; exact ⟨(y 0).cast (by decide), by rw [mem_slotSet]; rfl⟩

theorem sl0_set : (sl0 : Memref sig .tc .vmem S1024x32 .f32).view.set = slotSet 0 := by
  refine (View.set_reshape (v := (cM : Memref sig .tc .vmem S4x1024x32 .f32).view.slice rc0) squeezes_S1x1024x32_S1024x32.numel_eq).trans ?_
  rw [View.set_slice]; exact Finset.map_refl
theorem sl1_set : (sl1 : Memref sig .tc .vmem S1024x32 .f32).view.set = slotSet 1 := by
  refine (View.set_reshape (v := (cM : Memref sig .tc .vmem S4x1024x32 .f32).view.slice rc1) squeezes_S1x1024x32_S1024x32.numel_eq).trans ?_
  rw [View.set_slice]; exact Finset.map_refl
theorem sl2_set : (sl2 : Memref sig .tc .vmem S1024x32 .f32).view.set = slotSet 2 := by
  refine (View.set_reshape (v := (cM : Memref sig .tc .vmem S4x1024x32 .f32).view.slice rc2) squeezes_S1x1024x32_S1024x32.numel_eq).trans ?_
  rw [View.set_slice]; exact Finset.map_refl
theorem sl3_set : (sl3 : Memref sig .tc .vmem S1024x32 .f32).view.set = slotSet 3 := by
  refine (View.set_reshape (v := (cM : Memref sig .tc .vmem S4x1024x32 .f32).view.slice rc3) squeezes_S1x1024x32_S1024x32.numel_eq).trans ?_
  rw [View.set_slice]; exact Finset.map_refl

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Slot `k` of device `c`'s buffer at contents `f`. -/
abbrev slotPts (c : Dev nD) (k : Fin 4) (f : Buf (Elt F) ((c : Thread nD τ).loc cc0_scratch1)) : sProp 𝕄 :=
  ((c : Thread nD τ).loc cc0_scratch1) ↦[slotSet k]{fullShare} f

omit [FloatOps F] in
theorem slotAny0_eq (c : Dev nD) : (slotAny (F := F) c sl0 : sProp 𝕄) = iprop(∃ f, slotPts c 0 f) := by unfold slotAny; rw [sl0_set]
omit [FloatOps F] in
theorem slotAny1_eq (c : Dev nD) : (slotAny (F := F) c sl1 : sProp 𝕄) = iprop(∃ f, slotPts c 1 f) := by unfold slotAny; rw [sl1_set]
omit [FloatOps F] in
theorem slotAny2_eq (c : Dev nD) : (slotAny (F := F) c sl2 : sProp 𝕄) = iprop(∃ f, slotPts c 2 f) := by unfold slotAny; rw [sl2_set]
omit [FloatOps F] in
theorem slotAny3_eq (c : Dev nD) : (slotAny (F := F) c sl3 : sProp 𝕄) = iprop(∃ f, slotPts c 3 f) := by unfold slotAny; rw [sl3_set]

/-- The transfer buffer whole is its four slots, and back. -/
theorem buf_split (c : Dev nD) :
    iprop(∃ f : Buf (Elt F) ((c : Thread nD τ).loc cc0_scratch1), ((c : Thread nD τ).loc cc0_scratch1) ↦{fullShare} f)
      ⊢ (iprop(slotAny c sl0 ∗ slotAny c sl1 ∗ slotAny c sl2 ∗ slotAny c sl3) : sProp 𝕄) := by
  rw [slotAny0_eq, slotAny1_eq, slotAny2_eq, slotAny3_eq]
  iintro ⟨%f, H⟩
  ihave H4 := (Entails.of_eq ((Ring.pointsTo_blocks (Ix := Unit) (Name := ℕ) (U := UU) (Lvl := ℕ) (q := fullShare)
    (ℓ := (c : Thread nD τ).loc cc0_scratch1) slotSet slotSet_disjoint slotSet_cover f).trans (bigSep_fin4 _))) $$ H
  icases H4 with ⟨H0, H1, H2, H3⟩
  isplitl [H0]; · iexists f; iexact H0
  isplitl [H1]; · iexists f; iexact H1
  isplitl [H2]; · iexists f; iexact H2
  iexists f; iexact H3

theorem buf_join (c : Dev nD) :
    iprop(slotAny c sl0 ∗ slotAny c sl1 ∗ slotAny c sl2 ∗ slotAny c sl3)
      ⊢ (iprop(∃ f : Buf (Elt F) ((c : Thread nD τ).loc cc0_scratch1), ((c : Thread nD τ).loc cc0_scratch1) ↦{fullShare} f) : sProp 𝕄) := by
  rw [slotAny0_eq, slotAny1_eq, slotAny2_eq, slotAny3_eq]
  iintro ⟨⟨%f0, H0⟩, ⟨%f1, H1⟩, ⟨%f2, H2⟩, ⟨%f3, H3⟩⟩
  iapply (Ring.pointsTo_blocks_join_exists (ℓ := (c : Thread nD τ).loc cc0_scratch1) slotSet slotSet_disjoint slotSet_cover f0)
  irw [bigSep_fin4]
  isplitl [H0]; · iexists f0; iexact H0
  isplitl [H1]; · iexists f1; iexact H1
  isplitl [H2]; · iexists f2; iexact H2
  iexists f3; iexact H3

theorem slotIs_any (c : Dev nD) (M) (X) : slotIs (F := F) c M X ⊢ slotAny c M := by
  unfold slotIs slotAny
  iintro ⟨%f, -, H⟩; iexists f; iexact H

/-! ## Loads and stores of the slots -/

section LoadStore

theorem sl0_load : (cM : Memref sig .tc .vmem S4x1024x32 .f32).view.setOn rc0.toLoadRect.set ⊆ (sl0 : Memref sig .tc .vmem S1024x32 .f32).view.set := by
  rw [sl0_set]; exact Finset.map_refl.le
theorem sl1_load : (cM : Memref sig .tc .vmem S4x1024x32 .f32).view.setOn rc1.toLoadRect.set ⊆ (sl1 : Memref sig .tc .vmem S1024x32 .f32).view.set := by
  rw [sl1_set]; exact Finset.map_refl.le
theorem sl2_load : (cM : Memref sig .tc .vmem S4x1024x32 .f32).view.setOn rc2.toLoadRect.set ⊆ (sl2 : Memref sig .tc .vmem S1024x32 .f32).view.set := by
  rw [sl2_set]; exact Finset.map_refl.le
theorem sl3_load : (cM : Memref sig .tc .vmem S4x1024x32 .f32).view.setOn rc3.toLoadRect.set ⊆ (sl3 : Memref sig .tc .vmem S1024x32 .f32).view.set := by
  rw [sl3_set]; exact Finset.map_refl.le
theorem sl0_store : ((cM : Memref sig .tc .vmem S4x1024x32 .f32).access rc0).setOn Finset.univ ⊆ (sl0 : Memref sig .tc .vmem S1024x32 .f32).view.set := by
  rw [sl0_set]
  show ((cM : Memref sig .tc .vmem S4x1024x32 .f32).view.slice rc0).set ⊆ _
  rw [View.set_slice]; exact Finset.map_refl.le
theorem sl2_store : ((cM : Memref sig .tc .vmem S4x1024x32 .f32).access rc2).setOn Finset.univ ⊆ (sl2 : Memref sig .tc .vmem S1024x32 .f32).view.set := by
  rw [sl2_set]
  show ((cM : Memref sig .tc .vmem S4x1024x32 .f32).view.slice rc2).set ⊆ _
  rw [View.set_slice]; exact Finset.map_refl.le

variable (c : Dev nD)

/-- A load of slot 1 that reads as the stored list `v` reads `v`. -/
theorem load_sl1 (v : FVec F S1x1024x32 .f32) {α : Type} {Q : α → sProp 𝕄} {hl : (cM : Memref sig .tc .vmem S4x1024x32 .f32).view.LoadsAt rc1.toLoadRect}
    {k : (rc1.shape.Idx → Elt F .f32) → Prog (TpuEff nD τ sig (Elt F) Λ₀ .tc) α} :
    slotIs c sl1 (flat v)
      ⊢ iprop((slotIs c sl1 (flat v) -∗ wp frame (wpE (defs₀ (F := F)) 𝒱₀ (c : Thread nD τ) none) Set.univ (k v) Q)
          -∗ wp frame (wpE (defs₀ (F := F)) 𝒱₀ (c : Thread nD τ) none) Set.univ (.op (.load cM rc1.toLoadRect hl) k) Q) := by
  unfold slotIs
  iintro ⟨%f, %hf, H⟩ Hk
  have hv : (cM : Memref sig .tc .vmem S4x1024x32 .f32).view.readAt (Elt F) rc1.toLoadRect f = v := by
    apply flat_injective (F := F); exact hf
  iapply (wp_load 𝒱₀ (c : Thread nD τ) none Set.univ (m := cM) (r := rc1.toLoadRect) (f := f)
    sl1_load) $$ H
  iintro H
  rw [hv]
  iapply Hk
  iexists f; isplitr; · (ipureintro; exact hf)
  iexact H

theorem load_sl3 (v : FVec F S1x1024x32 .f32) {α : Type} {Q : α → sProp 𝕄} {hl : (cM : Memref sig .tc .vmem S4x1024x32 .f32).view.LoadsAt rc3.toLoadRect}
    {k : (rc3.shape.Idx → Elt F .f32) → Prog (TpuEff nD τ sig (Elt F) Λ₀ .tc) α} :
    slotIs c sl3 (flat v)
      ⊢ iprop((slotIs c sl3 (flat v) -∗ wp frame (wpE (defs₀ (F := F)) 𝒱₀ (c : Thread nD τ) none) Set.univ (k v) Q)
          -∗ wp frame (wpE (defs₀ (F := F)) 𝒱₀ (c : Thread nD τ) none) Set.univ (.op (.load cM rc3.toLoadRect hl) k) Q) := by
  unfold slotIs
  iintro ⟨%f, %hf, H⟩ Hk
  have hv : (cM : Memref sig .tc .vmem S4x1024x32 .f32).view.readAt (Elt F) rc3.toLoadRect f = v := by
    apply flat_injective (F := F); exact hf
  iapply (wp_load 𝒱₀ (c : Thread nD τ) none Set.univ (m := cM) (r := rc3.toLoadRect) (f := f)
    sl3_load) $$ H
  iintro H
  rw [hv]
  iapply Hk
  iexists f; isplitr; · (ipureintro; exact hf)
  iexact H

/-- The load before a store, its value unused, and the store: slot 0 then reads as what was stored. -/
theorem loadStore_sl0 (v : FVec F S1x1024x32 .f32) {α : Type} {Q : α → sProp 𝕄} {hl : (cM : Memref sig .tc .vmem S4x1024x32 .f32).view.LoadsAt rc0.toLoadRect}
    {hx : ((cM : Memref sig .tc .vmem S4x1024x32 .f32).access rc0).Stores Finset.univ} {hm : (Finset.univ : Finset rc0.shape.Idx) = Finset.univ ∨ ∀ a, rc0.stride a = 1}
    {k : PUnit → Prog (TpuEff nD τ sig (Elt F) Λ₀ .tc) α} :
    slotAny c sl0
      ⊢ iprop((slotIs c sl0 (flat v) -∗ wp frame (wpE (defs₀ (F := F)) 𝒱₀ (c : Thread nD τ) none) Set.univ (k ⟨⟩) Q)
          -∗ wp frame (wpE (defs₀ (F := F)) 𝒱₀ (c : Thread nD τ) none) Set.univ
              (.op (.load cM rc0.toLoadRect hl) fun _ => .op (.store cM rc0 v Finset.univ hx hm) k) Q) := by
  unfold slotAny slotIs
  iintro ⟨%f, H⟩ Hk
  iapply (wp_load 𝒱₀ (c : Thread nD τ) none Set.univ (m := cM) (r := rc0.toLoadRect) (f := f)
    sl0_load) $$ H
  iintro H
  iapply (wp_store 𝒱₀ (c : Thread nD τ) none Set.univ (m := cM) (r := rc0) (Mk := Finset.univ) (f := f)
    sl0_store) $$ H
  iintro H
  iapply Hk
  iexists (((cM : Memref sig .tc .vmem S4x1024x32 .f32).access rc0).write (Elt F) f v Finset.univ); isplitr
  · ipureintro
    have hw : ((cM : Memref sig .tc .vmem S4x1024x32 .f32).access rc0).read (Elt F) (((cM : Memref sig .tc .vmem S4x1024x32 .f32).access rc0).write (Elt F) f v Finset.univ) = v :=
      View.read_write_univ _ _
    exact congrArg flat hw
  iexact H

theorem loadStore_sl2 (v : FVec F S1x1024x32 .f32) {α : Type} {Q : α → sProp 𝕄} {hl : (cM : Memref sig .tc .vmem S4x1024x32 .f32).view.LoadsAt rc2.toLoadRect}
    {hx : ((cM : Memref sig .tc .vmem S4x1024x32 .f32).access rc2).Stores Finset.univ} {hm : (Finset.univ : Finset rc2.shape.Idx) = Finset.univ ∨ ∀ a, rc2.stride a = 1}
    {k : PUnit → Prog (TpuEff nD τ sig (Elt F) Λ₀ .tc) α} :
    slotAny c sl2
      ⊢ iprop((slotIs c sl2 (flat v) -∗ wp frame (wpE (defs₀ (F := F)) 𝒱₀ (c : Thread nD τ) none) Set.univ (k ⟨⟩) Q)
          -∗ wp frame (wpE (defs₀ (F := F)) 𝒱₀ (c : Thread nD τ) none) Set.univ
              (.op (.load cM rc2.toLoadRect hl) fun _ => .op (.store cM rc2 v Finset.univ hx hm) k) Q) := by
  unfold slotAny slotIs
  iintro ⟨%f, H⟩ Hk
  iapply (wp_load 𝒱₀ (c : Thread nD τ) none Set.univ (m := cM) (r := rc2.toLoadRect) (f := f)
    sl2_load) $$ H
  iintro H
  iapply (wp_store 𝒱₀ (c : Thread nD τ) none Set.univ (m := cM) (r := rc2) (Mk := Finset.univ) (f := f)
    sl2_store) $$ H
  iintro H
  iapply Hk
  iexists (((cM : Memref sig .tc .vmem S4x1024x32 .f32).access rc2).write (Elt F) f v Finset.univ); isplitr
  · ipureintro
    have hw : ((cM : Memref sig .tc .vmem S4x1024x32 .f32).access rc2).read (Elt F) (((cM : Memref sig .tc .vmem S4x1024x32 .f32).access rc2).write (Elt F) f v Finset.univ) = v :=
      View.read_write_univ _ _
    exact congrArg flat hw
  iexact H

end LoadStore

/-! ## The transfers and the waits -/

section Rules

variable (K : Dev nD × Fin 6 → ℕ)

theorem amount_h : (hM : Memref sig .tc .vmem S1024x4096 .f32).view.amount (.dma cpS.sem) = NH := by unfold NH; rfl
theorem credit_h : (hM : Memref sig .tc .vmem S1024x4096 .f32).view.dmaCredit = NH := by unfold NH; rfl
theorem credit_sl0 : (sl0 : Memref sig .tc .vmem S1024x32 .f32).view.dmaCredit = NS := by unfold NS; rfl
theorem credit_sl1 : (sl1 : Memref sig .tc .vmem S1024x32 .f32).view.dmaCredit = NS := by unfold NS; rfl
theorem credit_sl2 : (sl2 : Memref sig .tc .vmem S1024x32 .f32).view.dmaCredit = NS := by unfold NS; rfl
theorem credit_sl3 : (sl3 : Memref sig .tc .vmem S1024x32 .f32).view.dmaCredit = NS := by unfold NS; rfl
theorem amount_sl1 : (sl1 : Memref sig .tc .vmem S1024x32 .f32).view.amount (.dma raS.sem) = NS := by unfold NS; rfl
theorem amount_sl3 : (sl3 : Memref sig .tc .vmem S1024x32 .f32).view.amount (.dma rbS.sem) = NS := by unfold NS; rfl

/-- What landed in a slot reads as what was sent. -/
theorem landed_is (c : Dev nD) (M : Memref sig .tc .vmem S1024x32 .f32) (f : Buf (Elt F) (M.view.loc (c : Thread nD τ))) (X : FVec F S1024x32 .f32) :
    (M.view.loc (c : Thread nD τ) ↦[M.view.set]{fullShare} (M.view.write (Elt F) f X Finset.univ)) ⊢ slotIs c M X := by
  unfold slotIs
  iintro H
  iexists (M.view.write (Elt F) f X Finset.univ)
  isplitr; · (ipureintro; exact View.read_write_univ _ _)
  iexact H

theorem landed_h (c : Dev nD) (f X : Vec F S1024x4096 .f32) :
    ((hM : Memref sig .tc .vmem S1024x4096 .f32).view.loc (c : Thread nD τ) ↦[(hM : Memref sig .tc .vmem S1024x4096 .f32).view.set]{fullShare}
      ((hM : Memref sig .tc .vmem S1024x4096 .f32).view.write (Elt F) f X Finset.univ)) ⊢ hPts c X := by
  have h : (hM : Memref sig .tc .vmem S1024x4096 .f32).view.write (Elt F) f X Finset.univ = X := View.write_whole_univ (Val := Elt F) cc0_scratch0 f X
  rw [h]; exact BI.Entails.refl _

/-- The device's own copy of its half block into the scratch. -/
theorem step_copy (c : Dev nD) {hsrc : (srcM c).view.WordExact} {hdst : (hM : Memref sig .tc .vmem S1024x4096 .f32).view.WordExact}
    {hsem : DmaTarget.Typed (nD := nD) .hbm (.dma cpS.sem) (DmaTarget.here (p := (.tc : Proc τ)) (hM : Memref sig .tc .vmem S1024x4096 .f32))}
    {α : Type} {Q : α → sProp 𝕄} {k : PUnit → Prog (TpuEff nD τ sig (Elt F) Λ₀ .tc) α} (f : Vec F S1024x4096 .f32) :
    iprop(cellInv ER (Rd m) (K (c, 1)) (cpC c) ∗ srcPts m c ∗ hPts c f ∗ dutyTok ER (cpC c) 0 false ∗ reached ER (cpC c) 0)
      ⊢ iprop((cred (tallyAt (cpC c) () NH) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM c) (.here hM) (.dma cpS.sem) hsrc hdst hsem) k) Q) := by
  unfold srcPts hPts
  exact Rounds.wp_copy_pointsTo 𝒱₀ ER (Rd m) (c : Thread nD τ) none (κ := K (c, 1)) (r := 0) (d := false)
    (by rw [duties_cp]; exact Finset.mem_singleton_self _) () NH amount_h (amount_cp m c false)
    (by
      rw [payload_cp]; unfold cpPay srcPts
      iintro ⟨H1, H2⟩
      isplitl [H1]
      · iapply (landed_h c f (halfOf m c)); iexact H1
      iexact H2)

/-- Transfer a, addressed to `n`, which is `xn c`. -/
theorem step_send_a (c n : Dev nD) (hn : n = xn c) {hsc : (sl1 : Memref sig (Dev.tc n : Thread nD τ).2.kind .vmem S1024x32 .f32).view.ref.isScScratch = false}
    {hsrc : (sl0 : Memref sig .tc .vmem S1024x32 .f32).view.WordExact} {hdst : (sl1 : Memref sig .tc .vmem S1024x32 .f32).view.WordExact}
    {hsem : DmaTarget.Typed .vmem (.dma raS.sem) (.remote (Dev.tc n : Thread nD τ) (sl1 : Memref sig .tc .vmem S1024x32 .f32) (.dma saS.sem) hsc)}
    {α : Type} {Q : α → sProp 𝕄} {k : PUnit → Prog (TpuEff nD τ sig (Elt F) Λ₀ .tc) α} (W : Waits sig Unit) :
    iprop(cellInv ER (Rd m) (K (c, 2)) (saC c) ∗ cellInv ER (Rd m) (K (xn c, 3)) (raC (xn c))
        ∗ slotIs c sl0 (flat (listOf (halfOf m c)).2) ∗ slotAny (xn c) sl1
        ∗ owes (c : Thread nD τ) (O₂ c) W
        ∗ dutyTok ER (saC c) 0 false ∗ reached ER (saC c) 0
        ∗ dutyTok ER (raC (xn c)) 0 false ∗ reached ER (raC (xn c)) 0)
      ⊢ iprop(((cred (tallyAt (saC c) () NS) ∗ owes (c : Thread nD τ) (O₃ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sl0 (.remote (Dev.tc n : Thread nD τ) sl1 (.dma saS.sem) hsc) (.dma raS.sem) hsrc hdst hsem) k) Q) := by
  subst hn
  unfold slotIs slotAny
  iintro ⟨HI1, HI2, ⟨%f, %hf, Hs⟩, ⟨%g, Hd⟩, HO, Ht1, Hr1, Ht2, Hr2⟩ Hk
  iapply (Rounds.wp_send_pointsTo 𝒱₀ ER (Rd m) (c : Thread nD τ) none (κ₁ := K (c, 2)) (κ₂ := K (xn c, 3))
    (r₁ := 0) (r₂ := 0) (d₁ := false) (d₂ := false) (fs := f) (fd := g)
    (by rw [duties_sa]; exact Finset.mem_singleton_self _) (by rw [duties_ra]; exact Finset.mem_singleton_self _)
    () () NS amount_sl1 (amount_sa m c false) (amount_ra m (xn c) false) (O₃ c) (rfl) (W := W)
    (by rw [payload_sa]; unfold saPay slotAny; iintro H; iexists f; iexact H)
    (by
      rw [payload_ra, hf]; unfold raPay; rw [xn_xn]
      exact landed_is (xn c) sl1 g _)) $$ [HI1 HI2 Hs Hd HO Ht1 Hr1 Ht2 Hr2]
  · isplitl [HI1]; · iexact HI1
    isplitl [HI2]; · iexact HI2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iexact Hk

/-- Transfer b, addressed to `n`, which is `yn c`. -/
theorem step_send_b (c n : Dev nD) (hn : n = yn c) {hsc : (sl3 : Memref sig (Dev.tc n : Thread nD τ).2.kind .vmem S1024x32 .f32).view.ref.isScScratch = false}
    {hsrc : (sl2 : Memref sig .tc .vmem S1024x32 .f32).view.WordExact} {hdst : (sl3 : Memref sig .tc .vmem S1024x32 .f32).view.WordExact}
    {hsem : DmaTarget.Typed .vmem (.dma rbS.sem) (.remote (Dev.tc n : Thread nD τ) (sl3 : Memref sig .tc .vmem S1024x32 .f32) (.dma sbS.sem) hsc)}
    {α : Type} {Q : α → sProp 𝕄} {k : PUnit → Prog (TpuEff nD τ sig (Elt F) Λ₀ .tc) α} (W : Waits sig Unit) :
    iprop(cellInv ER (Rd m) (K (c, 4)) (sbC c) ∗ cellInv ER (Rd m) (K (yn c, 5)) (rbC (yn c))
        ∗ slotIs c sl2 (flat (shardOf (halfOf m c) (halfOf m (xn c))).2) ∗ slotAny (yn c) sl3
        ∗ owes (c : Thread nD τ) (O₃ c) W
        ∗ dutyTok ER (sbC c) 0 false ∗ reached ER (sbC c) 0
        ∗ dutyTok ER (rbC (yn c)) 0 false ∗ reached ER (rbC (yn c)) 0)
      ⊢ iprop(((cred (tallyAt (sbC c) () NS) ∗ owes (c : Thread nD τ) (0) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sl2 (.remote (Dev.tc n : Thread nD τ) sl3 (.dma sbS.sem) hsc) (.dma rbS.sem) hsrc hdst hsem) k) Q) := by
  subst hn
  unfold slotIs slotAny
  iintro ⟨HI1, HI2, ⟨%f, %hf, Hs⟩, ⟨%g, Hd⟩, HO, Ht1, Hr1, Ht2, Hr2⟩ Hk
  iapply (Rounds.wp_send_pointsTo 𝒱₀ ER (Rd m) (c : Thread nD τ) none (κ₁ := K (c, 4)) (κ₂ := K (yn c, 5))
    (r₁ := 0) (r₂ := 0) (d₁ := false) (d₂ := false) (fs := f) (fd := g)
    (by rw [duties_sb]; exact Finset.mem_singleton_self _) (by rw [duties_rb]; exact Finset.mem_singleton_self _)
    () () NS amount_sl3 (amount_sb m c false) (amount_rb m (yn c) false) (0) ((zero_add _).symm) (W := W)
    (by rw [payload_sb]; unfold sbPay slotAny; iintro H; iexists f; iexact H)
    (by
      rw [payload_rb, hf]; unfold rbPay; rw [yn_yn]
      exact landed_is (yn c) sl3 g _)) $$ [HI1 HI2 Hs Hd HO Ht1 Hr1 Ht2 Hr2]
  · isplitl [HI1]; · iexact HI1
    isplitl [HI2]; · iexact HI2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iexact Hk

theorem step_wait_cp (c : Dev nD) {h1 : (srcM c).view.WordExact} {h2 : (hM : Memref sig .tc .vmem S1024x4096 .f32).view.WordExact}
    {α : Type} {Q : α → sProp 𝕄} {k : PUnit → Prog (TpuEff nD τ sig (Elt F) Λ₀ .tc) α} {O : CellTallies nD τ sig Unit} {W : Waits sig Unit} :
    iprop(cellInv ER (Rd m) (K (c, 1)) (cpC c) ∗ cred (tallyAt (cpC c) () NH) ∗ owes (c : Thread nD τ) O W
        ∗ MayWait (c : Thread nD τ) (.dma cpS.sem) () O ∗ atPos ER (cpC c) 0 ∅ 0)
      ⊢ iprop(((owes (c : Thread nD τ) O (insert (SemLoc.dma cpS.sem, ()) W) ∗ atPos ER (cpC c) 1 ∅ 0 ∗ cpPay m c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 cpS.sem (srcM c) (hM : Memref sig .tc .vmem S1024x4096 .f32) h1 h2) k) Q) := by
  iintro H Hk
  have hN : (hM : Memref sig .tc .vmem S1024x4096 .f32).view.dmaCredit = NH := credit_h
  iapply (Rounds.wp_wait_rest_token 𝒱₀ ER (Rd m) (c : Thread nD τ) none (κ := K (c, 1)) (sm := .dma cpS.sem) (k' := (hM : Memref sig .tc .vmem S1024x4096 .f32).view.dmaCredit)
    (wpE_waitDma2_eq 𝒱₀ (c : Thread nD τ) none Set.univ) (Set.mem_univ _) () (O := O) (W := W) (R := 0) (m := 0) (T := ∅)
    (by rw [Nat.zero_add, expect_cp]; exact hN)) $$ [H]
  · rw [hN]; iexact H
  iintro ⟨HO, Hat, -, Hpay⟩
  iapply Hk
  isplitl [HO]; · iexact HO
  isplitl [Hat]; · iexact Hat
  ihave Hp := (Entails.of_eq (rest_cp m c)) $$ Hpay
  iexact Hp

theorem step_wait_sa (c : Dev nD) {h1 : (sl1 : Memref sig .tc .vmem S1024x32 .f32).view.WordExact} {h2 : (sl0 : Memref sig .tc .vmem S1024x32 .f32).view.WordExact}
    {α : Type} {Q : α → sProp 𝕄} {k : PUnit → Prog (TpuEff nD τ sig (Elt F) Λ₀ .tc) α} {O : CellTallies nD τ sig Unit} {W : Waits sig Unit} :
    iprop(cellInv ER (Rd m) (K (c, 2)) (saC c) ∗ cred (tallyAt (saC c) () NS) ∗ owes (c : Thread nD τ) O W
        ∗ MayWait (c : Thread nD τ) (.dma saS.sem) () O ∗ atPos ER (saC c) 0 ∅ 0)
      ⊢ iprop(((owes (c : Thread nD τ) O (insert (SemLoc.dma saS.sem, ()) W) ∗ atPos ER (saC c) 1 ∅ 0 ∗ saPay c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 saS.sem (sl1 : Memref sig .tc .vmem S1024x32 .f32) (sl0 : Memref sig .tc .vmem S1024x32 .f32) h1 h2) k) Q) := by
  iintro H Hk
  have hN : (sl0 : Memref sig .tc .vmem S1024x32 .f32).view.dmaCredit = NS := credit_sl0
  iapply (Rounds.wp_wait_rest_token 𝒱₀ ER (Rd m) (c : Thread nD τ) none (κ := K (c, 2)) (sm := .dma saS.sem) (k' := (sl0 : Memref sig .tc .vmem S1024x32 .f32).view.dmaCredit)
    (wpE_waitDma2_eq 𝒱₀ (c : Thread nD τ) none Set.univ) (Set.mem_univ _) () (O := O) (W := W) (R := 0) (m := 0) (T := ∅)
    (by rw [Nat.zero_add, expect_sa]; exact hN)) $$ [H]
  · rw [hN]; iexact H
  iintro ⟨HO, Hat, -, Hpay⟩
  iapply Hk
  isplitl [HO]; · iexact HO
  isplitl [Hat]; · iexact Hat
  ihave Hp := (Entails.of_eq (rest_sa m c)) $$ Hpay
  iexact Hp

theorem step_wait_ra (c : Dev nD) {h1 : (sl0 : Memref sig .tc .vmem S1024x32 .f32).view.WordExact} {h2 : (sl1 : Memref sig .tc .vmem S1024x32 .f32).view.WordExact}
    {α : Type} {Q : α → sProp 𝕄} {k : PUnit → Prog (TpuEff nD τ sig (Elt F) Λ₀ .tc) α} {O : CellTallies nD τ sig Unit} {W : Waits sig Unit} :
    iprop(cellInv ER (Rd m) (K (c, 3)) (raC c) ∗ cred (tallyAt (raC c) () NS) ∗ owes (c : Thread nD τ) O W
        ∗ MayWait (c : Thread nD τ) (.dma raS.sem) () O ∗ atPos ER (raC c) 0 ∅ 0)
      ⊢ iprop(((owes (c : Thread nD τ) O (insert (SemLoc.dma raS.sem, ()) W) ∗ atPos ER (raC c) 1 ∅ 0 ∗ raPay m c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 raS.sem (sl0 : Memref sig .tc .vmem S1024x32 .f32) (sl1 : Memref sig .tc .vmem S1024x32 .f32) h1 h2) k) Q) := by
  iintro H Hk
  have hN : (sl1 : Memref sig .tc .vmem S1024x32 .f32).view.dmaCredit = NS := credit_sl1
  iapply (Rounds.wp_wait_rest_token 𝒱₀ ER (Rd m) (c : Thread nD τ) none (κ := K (c, 3)) (sm := .dma raS.sem) (k' := (sl1 : Memref sig .tc .vmem S1024x32 .f32).view.dmaCredit)
    (wpE_waitDma2_eq 𝒱₀ (c : Thread nD τ) none Set.univ) (Set.mem_univ _) () (O := O) (W := W) (R := 0) (m := 0) (T := ∅)
    (by rw [Nat.zero_add, expect_ra]; exact hN)) $$ [H]
  · rw [hN]; iexact H
  iintro ⟨HO, Hat, -, Hpay⟩
  iapply Hk
  isplitl [HO]; · iexact HO
  isplitl [Hat]; · iexact Hat
  ihave Hp := (Entails.of_eq (rest_ra m c)) $$ Hpay
  iexact Hp

theorem step_wait_sb (c : Dev nD) {h1 : (sl3 : Memref sig .tc .vmem S1024x32 .f32).view.WordExact} {h2 : (sl2 : Memref sig .tc .vmem S1024x32 .f32).view.WordExact}
    {α : Type} {Q : α → sProp 𝕄} {k : PUnit → Prog (TpuEff nD τ sig (Elt F) Λ₀ .tc) α} {O : CellTallies nD τ sig Unit} {W : Waits sig Unit} :
    iprop(cellInv ER (Rd m) (K (c, 4)) (sbC c) ∗ cred (tallyAt (sbC c) () NS) ∗ owes (c : Thread nD τ) O W
        ∗ MayWait (c : Thread nD τ) (.dma sbS.sem) () O ∗ atPos ER (sbC c) 0 ∅ 0)
      ⊢ iprop(((owes (c : Thread nD τ) O (insert (SemLoc.dma sbS.sem, ()) W) ∗ atPos ER (sbC c) 1 ∅ 0 ∗ sbPay c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sbS.sem (sl3 : Memref sig .tc .vmem S1024x32 .f32) (sl2 : Memref sig .tc .vmem S1024x32 .f32) h1 h2) k) Q) := by
  iintro H Hk
  have hN : (sl2 : Memref sig .tc .vmem S1024x32 .f32).view.dmaCredit = NS := credit_sl2
  iapply (Rounds.wp_wait_rest_token 𝒱₀ ER (Rd m) (c : Thread nD τ) none (κ := K (c, 4)) (sm := .dma sbS.sem) (k' := (sl2 : Memref sig .tc .vmem S1024x32 .f32).view.dmaCredit)
    (wpE_waitDma2_eq 𝒱₀ (c : Thread nD τ) none Set.univ) (Set.mem_univ _) () (O := O) (W := W) (R := 0) (m := 0) (T := ∅)
    (by rw [Nat.zero_add, expect_sb]; exact hN)) $$ [H]
  · rw [hN]; iexact H
  iintro ⟨HO, Hat, -, Hpay⟩
  iapply Hk
  isplitl [HO]; · iexact HO
  isplitl [Hat]; · iexact Hat
  ihave Hp := (Entails.of_eq (rest_sb m c)) $$ Hpay
  iexact Hp

theorem step_wait_rb (c : Dev nD) {h1 : (sl2 : Memref sig .tc .vmem S1024x32 .f32).view.WordExact} {h2 : (sl3 : Memref sig .tc .vmem S1024x32 .f32).view.WordExact}
    {α : Type} {Q : α → sProp 𝕄} {k : PUnit → Prog (TpuEff nD τ sig (Elt F) Λ₀ .tc) α} {O : CellTallies nD τ sig Unit} {W : Waits sig Unit} :
    iprop(cellInv ER (Rd m) (K (c, 5)) (rbC c) ∗ cred (tallyAt (rbC c) () NS) ∗ owes (c : Thread nD τ) O W
        ∗ MayWait (c : Thread nD τ) (.dma rbS.sem) () O ∗ atPos ER (rbC c) 0 ∅ 0)
      ⊢ iprop(((owes (c : Thread nD τ) O (insert (SemLoc.dma rbS.sem, ()) W) ∗ atPos ER (rbC c) 1 ∅ 0 ∗ rbPay m c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rbS.sem (sl2 : Memref sig .tc .vmem S1024x32 .f32) (sl3 : Memref sig .tc .vmem S1024x32 .f32) h1 h2) k) Q) := by
  iintro H Hk
  have hN : (sl3 : Memref sig .tc .vmem S1024x32 .f32).view.dmaCredit = NS := credit_sl3
  iapply (Rounds.wp_wait_rest_token 𝒱₀ ER (Rd m) (c : Thread nD τ) none (κ := K (c, 5)) (sm := .dma rbS.sem) (k' := (sl3 : Memref sig .tc .vmem S1024x32 .f32).view.dmaCredit)
    (wpE_waitDma2_eq 𝒱₀ (c : Thread nD τ) none Set.univ) (Set.mem_univ _) () (O := O) (W := W) (R := 0) (m := 0) (T := ∅)
    (by rw [Nat.zero_add, expect_rb]; exact hN)) $$ [H]
  · rw [hN]; iexact H
  iintro ⟨HO, Hat, -, Hpay⟩
  iapply Hk
  isplitl [HO]; · iexact HO
  isplitl [Hat]; · iexact Hat
  ihave Hp := (Entails.of_eq (rest_rb m c)) $$ Hpay
  iexact Hp

end Rules

end Cert.KernelIdeal.Own

end
-- ==== Proof.BodyI.lean ====
/- # The body of a device

Its rules in program order, from what a device starts with to what it ends with. -/
module

public import proofs.«01_k».proof.Proof.StepsI

@[expose] public section

noncomputable section

namespace Cert.KernelIdeal.Own

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem listOf_eq (h : Vec F S1024x4096 .f32) : localSel (quarter0 h) (quarter1 h) (quarter2 h) (quarter3 h) = listOf h := rfl
theorem shardOf_eq (h h' : Vec F S1024x4096 .f32) : mergeA (listOf h).1 (listOf h').2 = shardOf h h' := rfl
theorem outAt_eq (c : Dev nD) : mergeB (shardOf (halfOf m c) (halfOf m (xn c))).1 (shardOf (halfOf m (yn c)) (halfOf m (xn (yn c)))).2 = outAt m c := rfl

/-! ## The argument and the scratch, whole and in parts -/

omit [FloatOps F] in
theorem hPts_eq (c : Dev nD) (f : Buf (Elt F) ((c : Thread nD τ).loc cc0_scratch0)) :
    (((c : Thread nD τ).loc cc0_scratch0) ↦{fullShare} f : sProp 𝕄) = hPts c f := by
  unfold hPts; simp only [Memref.view_whole, View.set_whole]

/-- The rest of the argument. -/
def restPts (c : Dev nD) : sProp 𝕄 :=
  ((c : Thread nD τ).loc main_arg0) ↦[Finset.univ \ (srcM c).view.set]{fullShare} m ((c : Thread nD τ).loc main_arg0)

theorem arg_split (c : Dev nD) : argPts m c ⊣⊢ iprop(srcPts m c ∗ restPts m c) :=
  pointsTo_split_subset (ℓ := (c : Thread nD τ).loc main_arg0) (I := (srcM c).view.set) (Finset.subset_univ _)

theorem h_load (r : LoadRect S1024x4096) :
    (hM : Memref sig .tc .vmem S1024x4096 .f32).view.setOn r.set ⊆ (hM : Memref sig .tc .vmem S1024x4096 .f32).view.set := by
  rw [Memref.view_whole, View.set_whole]; exact Finset.subset_univ _

section Loads

variable (c : Dev nD)

theorem load_quarter0 (h : Vec F S1024x4096 .f32) {α : Type} {Q : α → sProp 𝕄} {hl : (hM : Memref sig .tc .vmem S1024x4096 .f32).view.LoadsAt (Rect.unit (s := S1024x4096) ![0, 0] S1024x1024.size inb_S1024x4096_S1024x1024_0_0).toLoadRect}
    {k : ((Rect.unit (s := S1024x4096) ![0, 0] S1024x1024.size inb_S1024x4096_S1024x1024_0_0).shape.Idx → Elt F .f32) → Prog (TpuEff nD τ sig (Elt F) Λ₀ .tc) α} :
    hPts c h
      ⊢ iprop((hPts c h -∗ wp frame (wpE (defs₀ (F := F)) 𝒱₀ (c : Thread nD τ) none) Set.univ (k (quarter0 h)) Q)
          -∗ wp frame (wpE (defs₀ (F := F)) 𝒱₀ (c : Thread nD τ) none) Set.univ (.op (.load hM (Rect.unit (s := S1024x4096) ![0, 0] S1024x1024.size inb_S1024x4096_S1024x1024_0_0).toLoadRect hl) k) Q) := by
  unfold hPts
  exact wp_load 𝒱₀ (c : Thread nD τ) none Set.univ (m := hM) (h_load _)
theorem load_quarter1 (h : Vec F S1024x4096 .f32) {α : Type} {Q : α → sProp 𝕄} {hl : (hM : Memref sig .tc .vmem S1024x4096 .f32).view.LoadsAt (Rect.unit (s := S1024x4096) ![0, 1024] S1024x1024.size inb_S1024x4096_S1024x1024_0_1024).toLoadRect}
    {k : ((Rect.unit (s := S1024x4096) ![0, 1024] S1024x1024.size inb_S1024x4096_S1024x1024_0_1024).shape.Idx → Elt F .f32) → Prog (TpuEff nD τ sig (Elt F) Λ₀ .tc) α} :
    hPts c h
      ⊢ iprop((hPts c h -∗ wp frame (wpE (defs₀ (F := F)) 𝒱₀ (c : Thread nD τ) none) Set.univ (k (quarter1 h)) Q)
          -∗ wp frame (wpE (defs₀ (F := F)) 𝒱₀ (c : Thread nD τ) none) Set.univ (.op (.load hM (Rect.unit (s := S1024x4096) ![0, 1024] S1024x1024.size inb_S1024x4096_S1024x1024_0_1024).toLoadRect hl) k) Q) := by
  unfold hPts
  exact wp_load 𝒱₀ (c : Thread nD τ) none Set.univ (m := hM) (h_load _)
theorem load_quarter2 (h : Vec F S1024x4096 .f32) {α : Type} {Q : α → sProp 𝕄} {hl : (hM : Memref sig .tc .vmem S1024x4096 .f32).view.LoadsAt (Rect.unit (s := S1024x4096) ![0, 2048] S1024x1024.size inb_S1024x4096_S1024x1024_0_2048).toLoadRect}
    {k : ((Rect.unit (s := S1024x4096) ![0, 2048] S1024x1024.size inb_S1024x4096_S1024x1024_0_2048).shape.Idx → Elt F .f32) → Prog (TpuEff nD τ sig (Elt F) Λ₀ .tc) α} :
    hPts c h
      ⊢ iprop((hPts c h -∗ wp frame (wpE (defs₀ (F := F)) 𝒱₀ (c : Thread nD τ) none) Set.univ (k (quarter2 h)) Q)
          -∗ wp frame (wpE (defs₀ (F := F)) 𝒱₀ (c : Thread nD τ) none) Set.univ (.op (.load hM (Rect.unit (s := S1024x4096) ![0, 2048] S1024x1024.size inb_S1024x4096_S1024x1024_0_2048).toLoadRect hl) k) Q) := by
  unfold hPts
  exact wp_load 𝒱₀ (c : Thread nD τ) none Set.univ (m := hM) (h_load _)
theorem load_quarter3 (h : Vec F S1024x4096 .f32) {α : Type} {Q : α → sProp 𝕄} {hl : (hM : Memref sig .tc .vmem S1024x4096 .f32).view.LoadsAt (Rect.unit (s := S1024x4096) ![0, 3072] S1024x1024.size inb_S1024x4096_S1024x1024_0_3072).toLoadRect}
    {k : ((Rect.unit (s := S1024x4096) ![0, 3072] S1024x1024.size inb_S1024x4096_S1024x1024_0_3072).shape.Idx → Elt F .f32) → Prog (TpuEff nD τ sig (Elt F) Λ₀ .tc) α} :
    hPts c h
      ⊢ iprop((hPts c h -∗ wp frame (wpE (defs₀ (F := F)) 𝒱₀ (c : Thread nD τ) none) Set.univ (k (quarter3 h)) Q)
          -∗ wp frame (wpE (defs₀ (F := F)) 𝒱₀ (c : Thread nD τ) none) Set.univ (.op (.load hM (Rect.unit (s := S1024x4096) ![0, 3072] S1024x1024.size inb_S1024x4096_S1024x1024_0_3072).toLoadRect hl) k) Q) := by
  unfold hPts
  exact wp_load 𝒱₀ (c : Thread nD τ) none Set.univ (m := hM) (h_load _)
end Loads

/-! ## The body -/

section Body

variable (K : Dev nD × Fin 6 → ℕ)

theorem hz : (![0, 0] : Fin 2 → Nat) = fun _ => 0 := funext fun a => by fin_cases a <;> rfl
abbrev ro : Rect S1024x32 := Rect.unit (s := S1024x32) ![0, 0] S1024x32.size inb_S1024x32_S1024x32_0_0
omit [FloatOps F] in
theorem write_out (f w : (cc0_stg0_0 : Ref sig .tc).ty.Contents (Elt F)) :
    ((oM : Memref sig .tc .vmem S1024x32 .f32).access ro : View sig .tc _ _ _).write (Elt F) f w Finset.univ = w :=
  Memref.write_access_unit_zero_univ (Elt F) cc0_stg0_0 hz _ f w

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barC c) () 2) ∗ cred (tallyAt (raC c) () NS) ∗ cred (tallyAt (rbC c) () NS) ∗ levAts L lv ∗ argPts m c)
    ∗ bufs c
    ∗ (dats m ρ 0 c).owesAt () t0_0.castSucc
    ∗ (∃ d, stg c cc0_stg0_0 ((dats m ρ 0 c).before (0 : Fin 1) t0_0 d)))

def bodyPost (c : Dev nD) : sProp 𝕄 :=
  iprop(Φ₁ m c ∗ (dats m ρ 0 c).owesAt () t0_0.succ ∗ stg c cc0_stg0_0 (outAt m c))

set_option maxHeartbeats 2000000 in
/-- The body, one rule per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole main_arg0) (Memref.isWhole_whole _) (Memref.whole cc0_stg0_0) (Memref.isWhole_whole _)
            (Memref.whole cc0_scratch0) (Memref.isWhole_whole _) (Memref.whole cc0_scratch1) (Memref.isWhole_whole _)
            cc0_scratch2 cc0_scratch3 cc0_scratch4) Kt := by
  rw [cc0_body_eq_prog]; unfold prog
  simp only [semSignalWord, semWaitWord, Prog.lift, Prog.bind_op, Prog.bind_ret, Prog.pure_eq_ret, wp_deviceId]
  unfold bodyPre ghost invs ats marks payToks bufs
  iintro ⟨⟨⟨⟨⟨#HIb, #HIcp, #HIsa, #HIra, #HIsb, #HIrb, #HIbX, #HIbY, #HIraX, #HIrbY⟩, ⟨HaB, HaC, HaSA, HaRA, HaSB, HaRB⟩,
      ⟨#HrBX, #HrBY, #HrCP, #HrSA, #HrRA, #HrSB, #HrRB⟩, ⟨HtBX, HtBY, HtCP, HtSA, HtRA, HtSB, HtRB⟩⟩, HcB, HcRA, HcRB, #Hlev, Harg⟩,
      ⟨⟨%f0, Hh⟩, Hcb⟩, Ho, ⟨%d0, %g0, -, Hout⟩⟩, Hk⟩
  unfold Dat.owesAt Pipeline.owesWithin
  icases Ho with ⟨%W, %hW, HO⟩
  rw [show (dats m ρ 0 c).owed t0_0.castSucc = O₀ c from rfl]
  simp only [dev1_eq c, dev2_eq c]
  ihave Hh := (Entails.of_eq (hPts_eq c f0)) $$ Hh
  ihave Hsl := (buf_split c) $$ Hcb
  icases Hsl with ⟨Hs0, Hs1, Hs2, Hs3⟩
  ihave Ha := (arg_split m c).1 $$ Harg
  icases Ha with ⟨Hsrc, Hrest⟩
  -- the copy of the half block into the scratch
  iapply (step_copy m K c f0) $$ [Hsrc Hh HtCP]
  · isplitr; · iexact HIcp
    isplitl [Hsrc]; · iexact Hsrc
    isplitl [Hh]; · iexact Hh
    isplitl [HtCP]; · iexact HtCP
    iexact HrCP
  iintro HcCP
  -- the signal to `xn c`, with slot 1
  iapply (Rounds.wp_signal 𝒱₀ ER (Rd m) (c : Thread nD τ) none (dst := (xn c : Thread nD τ)) (κ := K (xn c, 0))
      (d := false) (by rw [duties_bar]; exact Finset.mem_univ _) ((amount_bar m (xn c) false).trans (by decide)) () (O₁ c) rfl)
    $$ [HO HtBX Hs1]
  · isplitr; · iexact HIbX
    isplitl [HO]; · iexact HO
    isplitl [HtBX]; · iexact HtBX
    isplitl [Hs1]
    · rw [payload_bar_false]; unfold barPayX; rw [xn_xn]
      isplitl [Hs1]; · iexact Hs1
      iexact HrRA
    iexact HrBX
  iintro HO
  -- the signal to `yn c`, with slot 3
  iapply (Rounds.wp_signal 𝒱₀ ER (Rd m) (c : Thread nD τ) none (dst := (yn c : Thread nD τ)) (κ := K (yn c, 0))
      (d := true) (by rw [duties_bar]; exact Finset.mem_univ _) ((amount_bar m (yn c) true).trans (by decide)) () (O₂ c) rfl)
    $$ [HO HtBY Hs3]
  · isplitr; · iexact HIbY
    isplitl [HO]; · iexact HO
    isplitl [HtBY]; · iexact HtBY
    isplitl [Hs3]
    · rw [payload_bar_true]; unfold barPayY; rw [yn_yn]
      isplitl [Hs3]; · iexact Hs3
      iexact HrRB
    iexact HrBY
  iintro HO
  -- the wait for both neighbours
  iapply (Rounds.wp_wait_rest_token 𝒱₀ ER (Rd m) (c : Thread nD τ) none (κ := K (c, 0))
      (wpE_semWait_eq 𝒱₀ (c : Thread nD τ) none Set.univ) (Set.mem_univ _) () (O := O₂ c) (W := W) (R := 0) (m := 0) (T := ∅)
      (by rw [expect_bar]; decide)) $$ [HcB HO HaB]
  · isplitr; · iexact HIb
    isplitl [HcB]; · iexact HcB
    isplitl [HO]; · iexact HO
    isplitr; · iapply (mayWait_bar c); iexact Hlev
    iexact HaB
  iintro ⟨HO, HaB, -, Hpay⟩
  ihave Hp := (Entails.of_eq (rest_bar m c)) $$ Hpay
  unfold barPayX barPayY
  icases Hp with ⟨⟨HsX, #HrRAX⟩, ⟨HsY, #HrRBY⟩⟩
  -- the wait for the copy: the half block is in the scratch
  iapply (step_wait_cp m K c) $$ [HcCP HO HaC]
  · isplitr; · iexact HIcp
    isplitl [HcCP]; · iexact HcCP
    isplitl [HO]; · iexact HO
    isplitr; · iapply (mayWait_cp c); iexact Hlev
    iexact HaC
  iintro ⟨HO, HaC, Hpay⟩
  unfold cpPay
  icases Hpay with ⟨Hh, Hsrc⟩
  -- the four quarters
  iapply (load_quarter0 c (halfOf m c)) $$ Hh; iintro Hh
  iapply (load_quarter1 c (halfOf m c)) $$ Hh; iintro Hh
  iapply (load_quarter2 c (halfOf m c)) $$ Hh; iintro Hh
  iapply (load_quarter3 c (halfOf m c)) $$ Hh; iintro Hh
  simp only [listOf_eq]
  -- the ascending list into slot 0, and its transfer
  iapply (loadStore_sl0 c (listOf (halfOf m c)).2) $$ Hs0; iintro Hs0
  iapply (step_send_a m K c _ (dev3_eq c) _) $$ [Hs0 HsX HO HtSA HtRA]
  · isplitr; · iexact HIsa
    isplitr; · iexact HIraX
    isplitl [Hs0]; · iexact Hs0
    isplitl [HsX]; · iexact HsX
    isplitl [HO]; · iexact HO
    isplitl [HtSA]; · iexact HtSA
    isplitr; · iexact HrSA
    isplitl [HtRA]; · iexact HtRA
    iexact HrRAX
  iintro ⟨HcSA, HO⟩
  iapply (step_wait_sa m K c) $$ [HcSA HO HaSA]
  · isplitr; · iexact HIsa
    isplitl [HcSA]; · iexact HcSA
    isplitl [HO]; · iexact HO
    isplitr; · iapply (mayWait_sa c); iexact Hlev
    iexact HaSA
  iintro ⟨HO, HaSA, Hs0⟩
  iapply (step_wait_ra m K c) $$ [HcRA HO HaRA]
  · isplitr; · iexact HIra
    isplitl [HcRA]; · iexact HcRA
    isplitl [HO]; · iexact HO
    isplitr; · iapply (mayWait_ra c); iexact Hlev
    iexact HaRA
  iintro ⟨HO, HaRA, Hs1⟩
  unfold raPay
  iapply (load_sl1 c (listOf (halfOf m (xn c))).2) $$ Hs1; iintro Hs1
  simp only [shardOf_eq]
  -- the ascending shard list into slot 2, and its transfer
  iapply (loadStore_sl2 c (shardOf (halfOf m c) (halfOf m (xn c))).2) $$ Hs2; iintro Hs2
  iapply (step_send_b m K c _ (dev4_eq c) _) $$ [Hs2 HsY HO HtSB HtRB]
  · isplitr; · iexact HIsb
    isplitr; · iexact HIrbY
    isplitl [Hs2]; · iexact Hs2
    isplitl [HsY]; · iexact HsY
    isplitl [HO]; · iexact HO
    isplitl [HtSB]; · iexact HtSB
    isplitr; · iexact HrSB
    isplitl [HtRB]; · iexact HtRB
    iexact HrRBY
  iintro ⟨HcSB, HO⟩
  iapply (step_wait_sb m K c) $$ [HcSB HO HaSB]
  · isplitr; · iexact HIsb
    isplitl [HcSB]; · iexact HcSB
    isplitl [HO]; · iexact HO
    isplitr; · rw [MayWait_zero]; iempintro
    iexact HaSB
  iintro ⟨HO, HaSB, Hs2⟩
  iapply (step_wait_rb m K c) $$ [HcRB HO HaRB]
  · isplitr; · iexact HIrb
    isplitl [HcRB]; · iexact HcRB
    isplitl [HO]; · iexact HO
    isplitr; · rw [MayWait_zero]; iempintro
    iexact HaRB
  iintro ⟨HO, HaRB, Hs3⟩
  unfold rbPay
  iapply (load_sl3 c (shardOf (halfOf m (yn c)) (halfOf m (xn (yn c)))).2) $$ Hs3; iintro Hs3
  simp only [outAt_eq]
  -- the result
  iapply (wp_load 𝒱₀ (c : Thread nD τ) none Set.univ (m := oM) (Finset.subset_univ _)) $$ Hout; iintro Hout
  iapply (wp_store 𝒱₀ (c : Thread nD τ) none Set.univ (m := oM) (r := ro) (Mk := Finset.univ) (Finset.subset_univ _)) $$ Hout; iintro Hout
  rw [write_out]
  -- the six semaphores close
  imod (Rounds.cell_close ER (Rd m) (Set.mem_univ (K (c, 0))) (fun h => h) (R := 1) (duties_later m (barC c))) $$ [HaB] with HzB
  · isplitr; · iexact HIb
    iexact HaB
  imod (Rounds.cell_close ER (Rd m) (Set.mem_univ (K (c, 1))) (fun h => h) (R := 1) (duties_later m (cpC c))) $$ [HaC] with HzC
  · isplitr; · iexact HIcp
    iexact HaC
  imod (Rounds.cell_close ER (Rd m) (Set.mem_univ (K (c, 2))) (fun h => h) (R := 1) (duties_later m (saC c))) $$ [HaSA] with HzSA
  · isplitr; · iexact HIsa
    iexact HaSA
  imod (Rounds.cell_close ER (Rd m) (Set.mem_univ (K (c, 3))) (fun h => h) (R := 1) (duties_later m (raC c))) $$ [HaRA] with HzRA
  · isplitr; · iexact HIra
    iexact HaRA
  imod (Rounds.cell_close ER (Rd m) (Set.mem_univ (K (c, 4))) (fun h => h) (R := 1) (duties_later m (sbC c))) $$ [HaSB] with HzSB
  · isplitr; · iexact HIsb
    iexact HaSB
  imod (Rounds.cell_close ER (Rd m) (Set.mem_univ (K (c, 5))) (fun h => h) (R := 1) (duties_later m (rbC c))) $$ [HaRB] with HzRB
  · isplitr; · iexact HIrb
    iexact HaRB
  rw [wp_ret]; imodintro
  iapply Hk
  unfold bodyPost Φ₁ bufs Dat.owesAt Pipeline.owesWithin
  rw [show (dats m ρ 0 c).owed t0_0.succ = 0 from rfl]
  isplitl [Hh Hs0 Hs1 Hs2 Hs3 HzB HzC HzSA HzRA HzSB HzRB Hsrc Hrest]
  · isplitl [Hh Hs0 Hs1 Hs2 Hs3]
    · isplitl [Hh]
      · iexists (halfOf m c); iapply (Entails.of_eq (hPts_eq c (halfOf m c)).symm); iexact Hh
      iapply (buf_join c)
      unfold saPay sbPay
      isplitl [Hs0]; · iexact Hs0
      isplitl [Hs1]; · iapply (slotIs_any c sl1 _); iexact Hs1
      isplitl [Hs2]; · iexact Hs2
      iapply (slotIs_any c sl3 _); iexact Hs3
    isplitl [HzB HzC HzSA HzRA HzSB HzRB]
    · isplitl [HzB]; · iexact HzB
      isplitl [HzC]; · iexact HzC
      isplitl [HzSA]; · iexact HzSA
      isplitl [HzRA]; · iexact HzRA
      isplitl [HzSB]; · iexact HzSB
      iexact HzRB
    iapply (arg_split m c).2
    isplitl [Hsrc] <;> iassumption
  isplitl [HO]
  · iexists _
    isplitr
    rotate_left
    · iexact HO
    · ipureintro; exact fun _ _ => Or.inl trivial
  iexists _; isplitr; · (ipureintro; rfl)
  iexact Hout

set_option maxRecDepth 4000 in
def bodyPre' (c : Dev nD) : sProp 𝕄 :=
  iprop(Φ₀ m c ∗ (dats m ρ 0 c).owesAt () t0_0.castSucc
    ∗ (∃ d, stg c cc0_stg0_0 ((dats m ρ 0 c).before (0 : Fin 1) t0_0 d)))

set_option maxRecDepth 4000 in
/-- The body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole main_arg0) (Memref.isWhole_whole _) (Memref.whole cc0_stg0_0) (Memref.isWhole_whole _)
      (Memref.whole cc0_scratch0) (Memref.isWhole_whole _) (Memref.whole cc0_scratch1) (Memref.isWhole_whole _)
      cc0_scratch2 cc0_scratch3 cc0_scratch4) (fun _ => bodyPost m ρ c)
  unfold bodyPre' Φ₀ start
  iintro ⟨⟨⟨⟨%K, Hg⟩, Hrest⟩, Hbufs⟩, Ho, Hout⟩
  iapply (sound_body m ρ K c fun _ => bodyPost m ρ c)
  unfold bodyPre
  isplitr []
  · isplitl [Hg Hrest]
    · isplitl [Hg]; · iexact Hg
      iexact Hrest
    isplitl [Hbufs]; · iexact Hbufs
    isplitl [Ho] <;> iassumption
  · iintro H; iexact H

end Body

end Cert.KernelIdeal.Own

end
-- ==== Proof.RunI.lean ====
/- # The run

The launch of the four devices: the ghost state dealt, the invariants of the semaphores allocated, and what every final
state holds. -/
module

public import proofs.«01_k».proof.Proof.BodyI
public import Idealize.ShloMosaic.Lib.Pipeline.CollectiveSegs

@[expose] public section

noncomputable section

namespace Cert.KernelIdeal.Own

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 6 → GSem nD τ sig) := by
  rintro ⟨c, k⟩ ⟨c', k'⟩ h
  have h1 : c = c' := by have := congrArg (fun g : GSem nD τ sig => g.1.1) h; exact this
  subst h1
  have h2 : k = k' := csem_inj k k' (congrArg Prod.snd h)
  subst h2; rfl
def cellSet : Finset (GSem nD τ sig) := Finset.univ.map ⟨kcell, kcell_injective⟩

/-- The seven duties of a device's semaphores: which semaphore, and which duty of it. -/
abbrev dutyOf : Fin 7 → Fin 6 × Bool := fun
  | 0 => (0, false) | 1 => (0, true) | 2 => (1, false) | 3 => (2, false) | 4 => (3, false) | 5 => (4, false) | 6 => (5, false)
abbrev tokOf (cj : Dev nD × Fin 7) : GSem nD τ sig × ℕ × Bool := (kcell (cj.1, (dutyOf cj.2).1), 0, (dutyOf cj.2).2)
theorem dutyOf_inj : ∀ i j : Fin 7, dutyOf i = dutyOf j → i = j := by decide
theorem tokOf_injective : Function.Injective (tokOf : Dev nD × Fin 7 → GSem nD τ sig × ℕ × Bool) := by
  rintro ⟨c, j⟩ ⟨c', j'⟩ h
  have h0 := kcell_injective (congrArg Prod.fst h)
  have h1 : c = c' := congrArg Prod.fst h0
  have h2 : j = j' := dutyOf_inj j j' (Prod.ext (congrArg Prod.snd h0) (congrArg (fun x : GSem nD τ sig × ℕ × Bool => x.2.2) h))
  subst h1; subst h2; rfl
def tokSet : Finset (GSem nD τ sig × ℕ × Bool) := Finset.univ.map ⟨tokOf, tokOf_injective⟩

def u₀ : UU :=
  (initOf (Pipeline.cells cfgs cellOf_inj) (Pipeline.launchToks cfgs cellOf_inj), initOf cellSet tokSet)

/-- The duty tokens of device `c`'s own semaphores. -/
def toks (c : Dev nD) : sProp 𝕄 :=
  iprop(dutyTok ER (barC c) 0 false ∗ dutyTok ER (barC c) 0 true ∗ dutyTok ER (cpC c) 0 false ∗ dutyTok ER (saC c) 0 false
    ∗ dutyTok ER (raC c) 0 false ∗ dutyTok ER (sbC c) 0 false ∗ dutyTok ER (rbC c) 0 false)

def G (c : Dev nD) : sProp 𝕄 :=
  iprop((bigSep Finset.univ fun k : Fin 6 => roundState ER (Rd m) (kcell (c, k)) 0)
    ∗ (bigSep Finset.univ fun k : Fin 6 => iprop(atPos ER (kcell (c, k)) 0 ∅ 0 ∗ reached ER (kcell (c, k)) 0)) ∗ toks c)
def G' (c : Dev nD) : sProp 𝕄 := iprop(∃ K, ghost m K c)

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem fund_all : BI.own (ER (initOf cellSet tokSet)) ⊢ (|==> bigSep Finset.univ (G m) : sProp 𝕄) := by
  have hX (Φ : GSem nD τ sig → sProp 𝕄) : bigSep cellSet Φ = bigSep Finset.univ fun c : Dev nD => bigSep Finset.univ fun k : Fin 6 => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]
    exact bigSep_congr fun c _ => by unfold toks; rw [bigSep_fin7]; rfl
  iintro HX
  imod (Rounds.fund ER (Rd m) cellSet tokSet) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (cpC c) 0 ∗ semVal (saC c) 0 ∗ semVal (raC c) 0 ∗ semVal (sbC c) 0 ∗ semVal (rbC c) 0) := by
  rw [Pipeline.ownSems0_eq_of_list c osem [0, 1, 2, 3, 4] (by decide) (by decide)]; rfl
omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 6 => semVal (kcell (c, k)) 0 : sProp 𝕄) := by
  rw [ownSems0_eq, unscopedSems0_eq, bigSep_fin6]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 6 => semVal (kcell (c, k)) 0) ∗ bigSep Finset.univ fun k : Fin 6 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 6 → ℕ) : sProp 𝕄 :=
  iprop((bigSep Finset.univ fun ck : Dev nD × Fin 6 => cellInv ER (Rd m) (K ck) (kcell ck))
    ∗ bigSep Finset.univ fun ck : Dev nD × Fin 6 => reached ER (kcell ck) 0)

instance records_persistent (K : Dev nD × Fin 6 → ℕ) : BI.Persistent (records m K) := by unfold records; infer_instance

theorem inv_at (K : Dev nD × Fin 6 → ℕ) (ck : Dev nD × Fin 6) :
    (bigSep Finset.univ fun ck : Dev nD × Fin 6 => (cellInv ER (Rd m) (K ck) (kcell ck) : sProp 𝕄)) ⊢ cellInv ER (Rd m) (K ck) (kcell ck) :=
  bigSep_elim (Finset.mem_univ ck)
omit [FloatOps F] in
theorem reached_at (ck : Dev nD × Fin 6) :
    (bigSep Finset.univ fun ck : Dev nD × Fin 6 => (reached ER (kcell ck) 0 : sProp 𝕄)) ⊢ reached ER (kcell ck) 0 :=
  bigSep_elim (Finset.mem_univ ck)

/-- What stays with device `c`. -/
def linear (c : Dev nD) : sProp 𝕄 := iprop(ats c ∗ payToks c)

theorem ghost_intro (K : Dev nD × Fin 6 → ℕ) (c : Dev nD) : iprop(records m K ∗ linear c) ⊢ G' m c := by
  unfold records linear G' ghost invs marks
  iintro ⟨⟨#HI, #HR⟩, Ha, Ht⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (xn c, 0)); iexact HI
    isplitr; · iapply (inv_at m K (yn c, 0)); iexact HI
    isplitr; · iapply (inv_at m K (xn c, 3)); iexact HI
    iapply (inv_at m K (yn c, 5)); iexact HI
  isplitl [Ha]; · iexact Ha
  isplitr
  · isplitr; · iapply (reached_at (F := F) (xn c, 0)); iexact HR
    isplitr; · iapply (reached_at (F := F) (yn c, 0)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    iapply (reached_at (F := F) (c, 5)); iexact HR
  iexact Ht

omit [FloatOps F] in
/-- The tokens dealt to the devices that pay them. -/
theorem toks_around : (bigSep Finset.univ fun c : Dev nD => (toks c : sProp 𝕄)) ⊢ bigSep Finset.univ fun c : Dev nD => payToks c := by
  unfold toks payToks
  simp only [bigSep_sep']
  rw [bigSep_univ_equiv swapX (fun c : Dev nD => (dutyTok ER (barC c) 0 false : sProp 𝕄)),
    bigSep_univ_equiv swapY (fun c : Dev nD => (dutyTok ER (barC c) 0 true : sProp 𝕄)),
    bigSep_univ_equiv swapX (fun c : Dev nD => (dutyTok ER (raC c) 0 false : sProp 𝕄)),
    bigSep_univ_equiv swapY (fun c : Dev nD => (dutyTok ER (rbC c) 0 false : sProp 𝕄))]
  exact BI.Entails.refl _

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 6 => iprop(∃ κ : ℕ, cellInv ER (Rd m) κ (kcell ck))),
    bigSep_congr (s := Finset.univ) (fun (c : Dev nD) _ => bigSep_sep' Finset.univ (fun k : Fin 6 => (atPos ER (kcell (c, k)) 0 ∅ 0 : sProp 𝕄)) (fun k => reached ER (kcell (c, k)) 0)),
    bigSep_sep', ← bigSep_univ_prod (fun ck : Dev nD × Fin 6 => (reached ER (kcell ck) 0 : sProp 𝕄))]
  iintro ⟨HI, ⟨Hat, #HR⟩, Htok⟩
  ihave HK := (BI.bigSep_exists_pi Finset.univ (fun (ck : Dev nD × Fin 6) (κ : ℕ) => (cellInv ER (Rd m) κ (kcell ck) : sProp 𝕄))) $$ HI
  icases HK with ⟨%K, #HI⟩
  ihave Htk := (toks_around (F := F)) $$ Htok
  iapply (bigSep_with (R := records m K) fun c _ => ghost_intro m K c)
  isplitr
  · unfold records; isplitl; · iexact HI
    iexact HR
  · iapply ((Entails.of_eq (bigSep_sep' Finset.univ (fun c : Dev nD => bigSep Finset.univ fun k : Fin 6 => (atPos ER (kcell (c, k)) 0 ∅ 0 : sProp 𝕄)) payToks).symm).trans
      (bigSep_mono fun c _ => show _ ⊢ linear c from Entails.of_eq (by unfold linear ats; rw [bigSep_fin6])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem cell_eq_iff {k : Fin 6} {a b : Dev nD} : Iff (kcell (a, k) = kcell (b, k)) (a = b) :=
  ⟨fun h => congrArg Prod.fst (kcell_injective h), fun h => h ▸ rfl⟩
theorem cell_ne {k k' : Fin 6} (h : k ≠ k') (a b : Dev nD) : kcell (a, k) ≠ kcell (b, k') :=
  fun e => h (congrArg Prod.snd (kcell_injective e))

/-- What `O₀ d` counts at a cell: a sum of four. -/
theorem O₀_apply (d : Dev nD) (g : GSem nD τ sig) :
    O₀ d g () = (((if g = rbC (yn d) then NS else 0) + (if g = raC (xn d) then NS else 0)) + (if g = barC (yn d) then 1 else 0)) + (if g = barC (xn d) then 1 else 0) := by
  have ht : ∀ (g' : GSem nD τ sig) (n : ℕ), (tallyAt g' () n : CellTallies nD τ sig Unit) g () = if g = g' then n else 0 := by
    intro g' n; rw [tallyAt_apply]
    by_cases h : g = g'
    · rw [if_pos ⟨h, rfl⟩, if_pos h]
    · rw [if_neg (fun h' => h h'.1), if_neg h]
  unfold O₀ O₁ O₂ O₃
  rw [Pi.add_apply, Finsupp.add_apply, Pi.add_apply, Finsupp.add_apply, Pi.add_apply, Finsupp.add_apply, ht, ht, ht, ht]

theorem owed_bar (d c : Dev nD) : O₀ d (barC c) () = (if d = yn c then 1 else 0) + (if d = xn c then 1 else 0) := by
  rw [O₀_apply, if_neg (cell_ne (k := 0) (k' := 5) (by decide) c (yn d)), if_neg (cell_ne (k := 0) (k' := 3) (by decide) c (xn d)), Nat.zero_add]
  congr 1
  · exact if_congr ((cell_eq_iff (k := 0)).trans (eq_comm.trans eq_yn_iff)) rfl rfl
  · exact if_congr ((cell_eq_iff (k := 0)).trans (eq_comm.trans eq_xn_iff)) rfl rfl
theorem owed_ra (d c : Dev nD) : O₀ d (raC c) () = if d = xn c then NS else 0 := by
  rw [O₀_apply, if_neg (cell_ne (k := 3) (k' := 5) (by decide) c (yn d)), if_neg (cell_ne (k := 3) (k' := 0) (by decide) c (yn d)),
    if_neg (cell_ne (k := 3) (k' := 0) (by decide) c (xn d)), Nat.zero_add, Nat.add_zero]
  exact if_congr ((cell_eq_iff (k := 3)).trans (eq_comm.trans eq_xn_iff)) rfl rfl
theorem owed_rb (d c : Dev nD) : O₀ d (rbC c) () = if d = yn c then NS else 0 := by
  rw [O₀_apply, if_neg (cell_ne (k := 5) (k' := 3) (by decide) c (xn d)), if_neg (cell_ne (k := 5) (k' := 0) (by decide) c (yn d)),
    if_neg (cell_ne (k := 5) (k' := 0) (by decide) c (xn d)), Nat.add_zero]
  exact if_congr ((cell_eq_iff (k := 5)).trans (eq_comm.trans eq_yn_iff)) rfl rfl

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (yn c) fun _ => 1, Finset.sum_ite_eq' Finset.univ (xn c) fun _ => 1, if_pos (Finset.mem_univ _), if_pos (Finset.mem_univ _)]
theorem launch_ra (c : Dev nD) :
    tallyOn (raC c) (launchCredit (Pipeline.owing O₀) 0 (raC c)) = (tallyAt (raC c) () NS : CellTallies nD τ sig Unit) := by
  unfold tallyAt; refine congrArg _ (Finsupp.ext fun u => ?_); cases u
  rw [Pipeline.launchCredit_owing, Finsupp.single_eq_same, Finset.sum_congr rfl fun d _ => owed_ra d c, Finset.sum_ite_eq' Finset.univ (xn c) fun _ => NS,
    if_pos (Finset.mem_univ _)]
theorem launch_rb (c : Dev nD) :
    tallyOn (rbC c) (launchCredit (Pipeline.owing O₀) 0 (rbC c)) = (tallyAt (rbC c) () NS : CellTallies nD τ sig Unit) := by
  unfold tallyAt; refine congrArg _ (Finsupp.ext fun u => ?_); cases u
  rw [Pipeline.launchCredit_owing, Finsupp.single_eq_same, Finset.sum_congr rfl fun d _ => owed_rb d c, Finset.sum_ite_eq' Finset.univ (yn c) fun _ => NS,
    if_pos (Finset.mem_univ _)]

omit [FloatOps F] in
theorem creds (c : Dev nD) :
    (Pipeline.launchCred O₀ c : sProp 𝕄) ⊢ iprop(cred (tallyAt (barC c) () 2) ∗ cred (tallyAt (raC c) () NS) ∗ cred (tallyAt (rbC c) () NS)) := by
  unfold Pipeline.launchCred
  rw [bigSep_univ_at _ (SemLoc.reg barS), launch_bar]
  refine sep_mono_right ?_
  rw [← launch_ra, ← launch_rb, bigSep_erase (i := SemLoc.dma raS.sem) (Finset.mem_erase.mpr ⟨ne_sem (i := 3) (j := 0) (by decide), Finset.mem_univ _⟩)]
  refine sep_mono_right ?_
  exact bigSep_elim (Finset.mem_erase.mpr ⟨ne_sem (i := 5) (j := 3) (by decide), Finset.mem_erase.mpr ⟨ne_sem (i := 5) (j := 0) (by decide), Finset.mem_univ _⟩⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Harg, Hlev, Hcr, -, HG⟩
  ihave Hc := (creds (F := F) c) $$ Hcr
  icases Hc with ⟨H1, H2, H3⟩
  imodintro
  unfold start G' argPts
  isplitl
  · isplitl [HG]; · iexact HG
    isplitl [H1]; · iexact H1
    isplitl [H2]; · iexact H2
    isplitl [H3]; · iexact H3
    isplitl [Hlev]; · iexact Hlev
    iexact Harg
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hr⟩
  isplitl [Hs]; · iexact Hs
  iexact Hr

/-- What a device keeps for the end: its barrier at zero, its argument. -/
def keep (c : Dev nD) : sProp 𝕄 := iprop(unscopedSems0 c ∗ argPts m c)

theorem phi1_exit (c : Dev nD) :
    (dats m ρ 0 c).Φ (Fin.last cfg0.N) ⊢ iprop(keep m c ∗ Pipeline.ownSems0 osem c ∗ Pipeline.scopedRest cfg0.spec c) := by
  unfold keep
  rw [show (dats m ρ 0 c).Φ (Fin.last cfg0.N) = Φ₁ m c from rfl, scopedRest0_eq, ownSems0_eq, unscopedSems0_eq]
  unfold Φ₁ bufs
  iintro ⟨Hr, ⟨HzB, Hz⟩, Harg⟩
  isplitl [HzB Harg]
  · isplitl [HzB] <;> iassumption
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w; fin_cases s; revert c; decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0)

set_option maxRecDepth 8000 in
/-- For any float values, from any memory with zero counters: every weakly fair execution of the four devices terminates,
    and every final state has each device's result at the computed contents, its argument unchanged and every semaphore at
    zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := keep m) (Z := fun _ => iprop(emp))
    (hX := start_intro m ρ) (hin := phi0_intro m ρ) (hout := phi1_exit m ρ)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      unfold keep argPts
      iintro ⟨⟨Hu, Harg⟩, -, HSI⟩
      icombine HSI Harg gives %h0
      imod (Pipeline.unscopedSems0_read (X := unscopedSems0 c) (c := c) fupd_intro s') $$ [Hu HSI] with ⟨%h1, HSI⟩
      · isplitl [Hu] <;> iassumption
      imodintro
      isplitr; · ipureintro; exact ⟨Buf.eq_of_forall_mem_univ h0, h1⟩
      iexact HSI)
    (hQ := fun _ h hs => ⟨fun c => ⟨fun w => (h c).1 w, (h c).2.2.1⟩, sem_eq_zero hs fun c => (h c).2.2.2⟩)

end Cert.KernelIdeal.Own

end
-- ==== Proof.Rank.lean ====
/- # Lists known by their thresholds

A value of a linear order is known by the thresholds below it. So a descending list of the greatest values of a family is
known by counts: its entry `j` reaches the threshold `u` exactly when more than `j` members of the family do. This file has
the arithmetic of such counts: for the selection by repeated maxima, for the two greatest of a class, and for the
merging network. -/
module

public import Mathlib.Data.EReal.Basic
public import Mathlib.Algebra.BigOperators.Intervals
public import Mathlib.Algebra.BigOperators.Fin
public import Mathlib.Algebra.Order.BigOperators.Group.Finset
public import Mathlib.Tactic.Order

@[expose] public section

namespace Cert.Rank

open Finset

variable {α : Type} [LinearOrder α]

/-- How many of the first `n` values of `f` reach `u`. -/
def cnt (n : ℕ) (f : ℕ → α) (u : α) : ℕ := ∑ i ∈ range n, if u ≤ f i then 1 else 0

theorem cnt_eq_card (n : ℕ) (f : ℕ → α) (u : α) : cnt n f u = #{i ∈ range n | u ≤ f i} := by
  unfold cnt; rw [card_filter]

theorem cnt_anti (n : ℕ) (f : ℕ → α) {u v : α} (h : u ≤ v) : cnt n f v ≤ cnt n f u := by
  unfold cnt
  refine sum_le_sum fun i _ => ?_
  by_cases hv : v ≤ f i
  · rw [if_pos hv, if_pos (h.trans hv)]
  · rw [if_neg hv]; exact Nat.zero_le _

theorem cnt_add (n k : ℕ) (f : ℕ → α) (u : α) : cnt (n + k) f u = cnt n f u + cnt k (fun i => f (n + i)) u := by
  unfold cnt; exact sum_range_add _ n k

/-! ### Descending lists -/

/-- The first 32 entries of `L` are the greatest values of a family of which `c u` reach the threshold `u`, in descending
    order. Below everything no claim is made, since every value reaches the least one. -/
def Top [OrderBot α] (L : ℕ → α) (c : α → ℕ) : Prop := ∀ j < 32, ∀ u : α, u ≠ ⊥ → (u ≤ L j ↔ j < c u)

/-- Two such lists agree where their counts agree up to 32. -/
theorem Top.ext [OrderBot α] {L L' : ℕ → α} {c c' : α → ℕ} (h : Top L c) (h' : Top L' c')
    (e : ∀ u, u ≠ ⊥ → min 32 (c u) = min 32 (c' u)) {j : ℕ} (hj : j < 32) : L j = L' j := by
  refine eq_of_forall_le_iff fun u => ?_
  by_cases hu : u = ⊥
  · subst hu; simp
  · rw [h j hj u hu, h' j hj u hu]; have := e u hu; omega

/-- A descending family is such a list of its own counts. -/
theorem le_iff_of_antitone {n : ℕ} {g : ℕ → α} (hg : ∀ i j, i ≤ j → j < n → g j ≤ g i) {j : ℕ} (hj : j < n) (u : α) :
    u ≤ g j ↔ j < cnt n g u := by
  rw [cnt_eq_card]
  constructor
  · intro h
    have : range (j + 1) ⊆ {i ∈ range n | u ≤ g i} := by
      intro i hi
      rw [mem_range] at hi
      exact mem_filter.mpr ⟨mem_range.mpr (by omega), h.trans (hg i j (by omega) hj)⟩
    have := card_le_card this
    rw [card_range] at this; omega
  · intro h
    by_contra hlt
    have : {i ∈ range n | u ≤ g i} ⊆ range j := by
      intro i hi
      obtain ⟨hi, hu⟩ := mem_filter.mp hi
      rw [mem_range] at hi ⊢
      by_contra hij
      exact hlt (hu.trans (hg j i (by omega) hi))
    have := card_le_card this
    rw [card_range] at this; omega

/-- Counting does not see a rearrangement. -/
theorem cnt_perm {n : ℕ} (σ : Fin n → Fin n) (hσ : Function.Injective σ) {f g : ℕ → α}
    (h : ∀ i : Fin n, g i = f (σ i)) (u : α) : cnt n g u = cnt n f u := by
  unfold cnt
  rw [sum_range, sum_range]
  rw [← Equiv.sum_comp (Equiv.ofBijective σ (Finite.injective_iff_bijective.mp hσ)) fun i : Fin n => if u ≤ f i then 1 else 0]
  exact sum_congr rfl fun i _ => by rw [h i]; rfl

/-! ### Selection by repeated maxima -/

section select
variable [BoundedOrder α]

/-- The greatest of the first `n` values of `f` that lie strictly under `b`, and the least value when there is none. -/
def below (n : ℕ) (f : ℕ → α) (b : α) : α := (range n).sup fun i => if f i < b then f i else ⊥

theorem le_below {n : ℕ} {f : ℕ → α} {b u : α} (hu : u ≠ ⊥) : u ≤ below n f b ↔ ∃ i < n, f i < b ∧ u ≤ f i := by
  unfold below
  rw [Finset.le_sup_iff (bot_lt_iff_ne_bot.mpr hu)]
  constructor
  · rintro ⟨i, hi, h⟩
    by_cases hb : f i < b
    · rw [if_pos hb] at h; exact ⟨i, mem_range.mp hi, hb, h⟩
    · rw [if_neg hb] at h; exact absurd (le_bot_iff.mp h) hu
  · rintro ⟨i, hi, hb, h⟩
    exact ⟨i, mem_range.mpr hi, by rw [if_pos hb]; exact h⟩

/-- The thresholds of the selection: from the greatest value on, each the greatest value under the one before. -/
def thr (n : ℕ) (f : ℕ → α) : ℕ → α
  | 0 => ⊤
  | k + 1 => below n f (thr n f k)

/-- The different values of `f` that reach `u`, the greatest value left out. -/
def vals (n : ℕ) (f : ℕ → α) (u : α) : Finset α := ((range n).image f).filter fun s => u ≤ s ∧ s < ⊤

theorem mem_vals {n : ℕ} {f : ℕ → α} {u s : α} : s ∈ vals n f u ↔ (∃ i < n, f i = s) ∧ u ≤ s ∧ s < ⊤ := by
  unfold vals; rw [mem_filter, mem_image]; simp only [mem_range]

/-- The thresholds are the descending list of the different values. -/
theorem le_thr (n : ℕ) (f : ℕ → α) (k : ℕ) : ∀ u : α, u ≠ ⊥ → (u ≤ thr n f (k + 1) ↔ k < #(vals n f u)) := by
  induction k with
  | zero =>
    intro u hu
    show u ≤ below n f ⊤ ↔ _
    rw [le_below hu, Finset.card_pos]
    constructor
    · rintro ⟨i, hi, hb, h⟩; exact ⟨f i, mem_vals.mpr ⟨⟨i, hi, rfl⟩, h, hb⟩⟩
    · rintro ⟨s, hs⟩
      obtain ⟨⟨i, hi, rfl⟩, h, hb⟩ := mem_vals.mp hs
      exact ⟨i, hi, hb, h⟩
  | succ k ih =>
    intro u hu
    show u ≤ below n f (thr n f (k + 1)) ↔ _
    rw [le_below hu]
    set v := thr n f (k + 1) with hv
    constructor
    · rintro ⟨i, hi, hb, h⟩
      have hvb : v ≠ ⊥ := fun e => by rw [e] at hb; exact absurd hb not_lt_bot
      have h1 : k < #(vals n f v) := (ih v hvb).mp le_rfl
      have hsub : vals n f v ⊂ vals n f u := by
        refine ⟨fun s hs => ?_, fun hs => ?_⟩
        · obtain ⟨h1, h2, h3⟩ := mem_vals.mp hs
          exact mem_vals.mpr ⟨h1, h.trans (hb.le.trans h2), h3⟩
        · have := hs (mem_vals.mpr ⟨⟨i, hi, rfl⟩, h, lt_of_lt_of_le hb le_top⟩)
          exact absurd (mem_vals.mp this).2.1 (not_le.mpr hb)
      have := card_lt_card hsub
      omega
    · intro hk
      by_contra hno
      have huv : u ≤ v := (ih u hu).mpr (by omega)
      -- every value that reaches `u` reaches `v`; those over `v` are at most `k`
      have hsub : vals n f u ⊆ insert v ((vals n f u).filter fun s => v < s) := by
        intro s hs
        rw [mem_insert, mem_filter]
        obtain ⟨⟨i, hi, rfl⟩, h2, h3⟩ := mem_vals.mp hs
        rcases lt_trichotomy (f i) v with h | h | h
        · exact absurd ⟨i, hi, h, h2⟩ hno
        · exact Or.inl h
        · exact Or.inr ⟨hs, h⟩
      have hcard := (card_le_card hsub).trans (card_insert_le _ _)
      set S := (vals n f u).filter fun s => v < s with hS
      have hne : S.Nonempty := card_pos.mp (by omega)
      have hm := S.min'_mem hne
      have hvm : v < S.min' hne := (mem_filter.mp hm).2
      have hmb : S.min' hne ≠ ⊥ := fun e => by rw [e] at hvm; exact absurd hvm not_lt_bot
      have hSsub : S ⊆ vals n f (S.min' hne) := by
        intro s hs
        obtain ⟨h1, h2, h3⟩ := mem_vals.mp (mem_filter.mp hs).1
        exact mem_vals.mpr ⟨h1, S.min'_le s hs, h3⟩
      have := card_le_card hSsub
      exact absurd ((ih _ hmb).mpr (by omega)) (not_le.mpr hvm)

/-- The selected list, from its first threshold on. -/
theorem top_thr (n : ℕ) (f : ℕ → α) : Top (fun k => thr n f (k + 1)) fun u => #(vals n f u) := fun j _ u hu => le_thr n f j u hu

end select

/-! ### The two greatest of a class -/

/-- `s` and `t` are the two greatest of a family of which `c u` reach `u`. -/
def Two (c : α → ℕ) (s t : α) : Prop := ∀ u, (u ≤ s ↔ 1 ≤ c u) ∧ (u ≤ t ↔ 2 ≤ c u)

/-- The second greatest of four, by comparing the pairs' maxima. -/
def second (a₁ a₂ b₁ b₂ : α) : α :=
  max (min (max a₁ a₂) (max b₁ b₂)) (if max b₁ b₂ < max a₁ a₂ then min a₁ a₂ else min b₁ b₂)

theorem le_second (a₁ a₂ b₁ b₂ u : α) : u ≤ second a₁ a₂ b₁ b₂ ↔
    2 ≤ (if u ≤ a₁ then 1 else 0) + (if u ≤ a₂ then 1 else 0) + (if u ≤ b₁ then 1 else 0) + (if u ≤ b₂ then 1 else 0) := by
  unfold second
  by_cases h1 : u ≤ a₁ <;> by_cases h2 : u ≤ a₂ <;> by_cases h3 : u ≤ b₁ <;> by_cases h4 : u ≤ b₂ <;>
    by_cases h : max b₁ b₂ < max a₁ a₂ <;> simp only [h, if_true, if_false, le_max_iff, le_min_iff, h1, h2, h3, h4] <;> simp
  · simp only [lt_max_iff, max_lt_iff, not_or, not_and_or, not_lt] at h
    rcases h with ⟨h | h, -⟩
    · exact h3 (h1.trans h)
    · exact h4 (h1.trans h)
  · simp only [lt_max_iff, max_lt_iff] at h
    rcases h with ⟨h, -⟩ | ⟨h, -⟩
    · exact h1 (h3.trans h.le)
    · exact h2 (h3.trans h.le)

/-- Of the four values of two classes' pairs, the two greatest are those of the classes together. -/
theorem Two.join {c c' : α → ℕ} {s t s' t' : α} (h : Two c s t) (h' : Two c' s' t') :
    Two (fun u => c u + c' u) (max (max s s') (max t t')) (second s s' t t') := by
  intro u
  obtain ⟨h1, h2⟩ := h u
  obtain ⟨h3, h4⟩ := h' u
  rw [le_second, le_max_iff, le_max_iff, le_max_iff]
  simp only [h1, h2, h3, h4]
  constructor
  · omega
  · split_ifs <;> omega

/-- Of four values, the two greatest. -/
theorem Two.four (a₁ a₂ b₁ b₂ : α) :
    Two (fun u => (if u ≤ a₁ then 1 else 0) + (if u ≤ a₂ then 1 else 0) + (if u ≤ b₁ then 1 else 0) + (if u ≤ b₂ then 1 else 0))
      (max (max a₁ a₂) (max b₁ b₂)) (second a₁ a₂ b₁ b₂) := by
  intro u
  refine ⟨?_, le_second a₁ a₂ b₁ b₂ u⟩
  rw [le_max_iff, le_max_iff, le_max_iff]
  dsimp only
  split_ifs <;> simp_all

end Cert.Rank

end
-- ==== Proof.Classes.lean ====
/- # The candidates of a half block

The kernel keeps, of each class of columns modulo 64, the two greatest values, and selects from these 128 candidates. Here
is what that loses: the candidates never hold more values over a threshold than the half block has entries over it, and
where no class has three entries over the threshold and no two entries over it are equal they hold as many. -/
module

public import proofs.«01_k».proof.Proof.Rank

@[expose] public section

namespace Cert.Rank

open Finset

variable {α : Type} [LinearOrder α]

/-- The classes modulo `2 * W` in pairs are the classes modulo `W`. -/
theorem cnt_halve (n W : ℕ) (f : ℕ → α) (k : ℕ) (u : α) : cnt (2 * n) (fun a => f (a * W + k)) u
    = cnt n (fun a => f (a * (2 * W) + k)) u + cnt n (fun a => f (a * (2 * W) + (k + W))) u := by
  unfold cnt
  induction n with
  | zero => rfl
  | succ n ih =>
    rw [show 2 * (n + 1) = 2 * n + 1 + 1 from by ring, sum_range_succ, sum_range_succ, ih, sum_range_succ, sum_range_succ]
    dsimp only
    simp only [show 2 * n * W + k = n * (2 * W) + k from by ring, show (2 * n + 1) * W + k = n * (2 * W) + (k + W) from by ring]
    omega

/-- The classes together are the whole. -/
theorem cnt_classes (n W : ℕ) (f : ℕ → α) (u : α) :
    ∑ k ∈ range W, cnt n (fun a => f (a * W + k)) u = cnt (n * W) f u := by
  induction n with
  | zero => simp [cnt]
  | succ n ih =>
    rw [show (n + 1) * W = n * W + W from by ring, cnt_add, ← ih]
    simp only [cnt, sum_range_succ, sum_add_distrib]

/-- Below an entry more is counted than below what lies over it. -/
theorem cnt_lt {n : ℕ} {g : ℕ → α} {a : ℕ} (ha : a < n) {v : α} (h : g a < v) : cnt n g v < cnt n g (g a) := by
  rw [cnt_eq_card, cnt_eq_card]
  refine card_lt_card ⟨fun i hi => ?_, fun hs => ?_⟩
  · exact mem_filter.mpr ⟨(mem_filter.mp hi).1, h.le.trans (mem_filter.mp hi).2⟩
  · exact absurd (mem_filter.mp (hs (mem_filter.mpr ⟨mem_range.mpr ha, le_rfl⟩))).2 (not_le.mpr h)

theorem cnt_pos {n : ℕ} {g : ℕ → α} {a : ℕ} (ha : a < n) {u : α} (h : u ≤ g a) : 1 ≤ cnt n g u := by
  rw [cnt_eq_card]; exact card_pos.mpr ⟨a, mem_filter.mpr ⟨mem_range.mpr ha, h⟩⟩

/-- An entry over which at most one other lies is one of the two greatest. -/
theorem Two.mem {n : ℕ} {g : ℕ → α} {s t : α} (h : Two (cnt n g) s t) {a : ℕ} (ha : a < n) (h2 : cnt n g (g a) ≤ 2) :
    g a = s ∨ g a = t := by
  have h1 : g a ≤ s := ((h _).1).mpr (cnt_pos ha le_rfl)
  rcases h1.eq_or_lt with e | hs
  · exact Or.inl e
  · have c1 : 1 ≤ cnt n g s := ((h _).1).mp le_rfl
    have h3 : g a ≤ t := ((h _).2).mpr (by have := cnt_lt ha hs; omega)
    rcases h3.eq_or_lt with e | ht
    · exact Or.inr e
    · have c2 : 2 ≤ cnt n g t := ((h _).2).mp le_rfl
      have := cnt_lt ha ht
      omega

/-- The candidates `c` of a half block `f`: lane `k` and lane `64 + k` are the two greatest of class `k`. -/
def Cand (f c : ℕ → α) : Prop := ∀ k < 64, Two (cnt 64 fun a => f (a * 64 + k)) (c k) (c (64 + k))

/-- Over the threshold `t` a half block has no class with three entries, no two equal entries, and never the greatest value. -/
def Good [OrderTop α] (t : α) (f : ℕ → α) : Prop :=
  (∀ k < 64, cnt 64 (fun a => f (a * 64 + k)) t ≤ 2) ∧ (∀ i < 4096, ∀ j < 4096, i ≠ j → f i = f j → f i < t) ∧ ∀ i < 4096, f i < ⊤

variable [BoundedOrder α]

theorem card_vals_le {f c : ℕ → α} (h : Cand f c) (u : α) : #(vals 128 c u) ≤ cnt 4096 f u := by
  have h1 : vals 128 c u ⊆ ((range 128).filter fun i => u ≤ c i).image c := by
    intro s hs
    obtain ⟨⟨i, hi, rfl⟩, h2, -⟩ := mem_vals.mp hs
    exact mem_image.mpr ⟨i, mem_filter.mpr ⟨mem_range.mpr hi, h2⟩, rfl⟩
  refine ((card_le_card h1).trans card_image_le).trans ?_
  rw [← cnt_eq_card, show 128 = 64 + 64 from rfl, cnt_add, show 4096 = 64 * 64 from rfl, ← cnt_classes]
  unfold cnt
  rw [← sum_add_distrib]
  refine sum_le_sum fun k hk => ?_
  have := h k (mem_range.mp hk) u
  unfold cnt at this
  split_ifs with a b b <;> first | omega | exact this.2.mp b | exact this.1.mp a | exact (by have := this.2.mp b; omega)

theorem le_card_vals {f c : ℕ → α} (h : Cand f c) {t u : α} (hg : Good t f) (hu : t ≤ u) : cnt 4096 f u ≤ #(vals 128 c u) := by
  obtain ⟨h2, hd, ht⟩ := hg
  rw [cnt_eq_card]
  refine card_le_card_of_injOn f ?_ ?_
  · intro i hi
    obtain ⟨hi, hui⟩ := mem_filter.mp hi
    rw [mem_range] at hi
    refine mem_coe.mpr (mem_vals.mpr ⟨?_, hui, ht i hi⟩)
    have hk : i % 64 < 64 := Nat.mod_lt _ (by decide)
    have e : i / 64 * 64 + i % 64 = i := by omega
    have hm := (h _ hk).mem (a := i / 64) (by omega)
      ((cnt_anti _ _ (by rw [e]; exact hu.trans hui)).trans (h2 _ hk))
    rw [e] at hm
    rcases hm with hm | hm
    · exact ⟨i % 64, by omega, hm.symm⟩
    · exact ⟨64 + i % 64, by omega, hm.symm⟩
  · intro i hi j hj hij
    by_contra hne
    obtain ⟨hi, hui⟩ := mem_filter.mp (mem_coe.mp hi)
    obtain ⟨hj, -⟩ := mem_filter.mp (mem_coe.mp hj)
    exact absurd (hd i (mem_range.mp hi) j (mem_range.mp hj) hne hij) (not_lt.mpr (hu.trans hui))

/-- So the two halves' candidates hold, up to 32, as many values over every threshold as the block has entries over it, when
    the block has 32 entries over a threshold `t` over which nothing is lost. -/
theorem block_counts {f c₀ c₁ : ℕ → α} (h₀ : Cand f c₀) (h₁ : Cand (fun i => f (4096 + i)) c₁) {t : α}
    (ht : 32 ≤ cnt 8192 f t) (hg₀ : Good t f) (hg₁ : Good t fun i => f (4096 + i)) (u : α) :
    min 32 (#(vals 128 c₀ u) + #(vals 128 c₁ u)) = min 32 (cnt 8192 f u) := by
  have e : ∀ v, cnt 8192 f v = cnt 4096 f v + cnt 4096 (fun i => f (4096 + i)) v := fun v => cnt_add 4096 4096 f v
  have a₀ := card_vals_le h₀ u
  have a₁ := card_vals_le h₁ u
  have eu := e u
  rcases le_total t u with hu | hu
  · have b₀ := le_card_vals h₀ hg₀ hu
    have b₁ := le_card_vals h₁ hg₁ hu
    omega
  · have et := e t
    have b₀ := le_card_vals h₀ hg₀ le_rfl
    have b₁ := le_card_vals h₁ hg₁ le_rfl
    have m : ∀ c : ℕ → α, #(vals 128 c t) ≤ #(vals 128 c u) := fun c => card_le_card fun s hs => by
      obtain ⟨x, y, z⟩ := mem_vals.mp hs
      exact mem_vals.mpr ⟨x, hu.trans y, z⟩
    have m₀ := m c₀
    have m₁ := m c₁
    omega

end Cert.Rank

end
-- ==== Proof.Sorted.lean ====
/- # Sorted rows

The host sorts by a comparison that over the extended reals is `<`. What is known of a row sorted by it: the position a value
lands on bounds how many entries reach it, equal entries land side by side, and a bound on one position bounds the entries
over it. -/
module

public import Idealize.ShloMosaic.Lib.SortFacts
public import Idealize.ShloMosaic.Lib.ValueIdx
public import proofs.«01_k».proof.Proof.Classes

@[expose] public section

noncomputable section

namespace Cert.Sorted

open Cert.Rank Finset
open Idealize.ShloMosaic Idealize.ShloMosaic.ValueIdx

/-- The comparison of extended reals as a bit. -/
def lt1 (l r : EReal) : BitVec 1 := BitVec.ofBool (decide (l < r))

theorem lt1_iff (l r : EReal) : (lt1 l r == 1#1) = decide (l < r) := by
  unfold lt1
  by_cases h : l < r <;> simp [h]

theorem lt1_true (l r : EReal) : lt1 l r = 1#1 ↔ l < r := by
  rw [← decide_eq_true_iff (p := l < r), ← lt1_iff, beq_iff_eq]

/-- The host's comparator replaces zeros by zero and what differs from itself by a constant: neither changes a value here. -/
theorem canon (x c : EReal) : Scalar.select (Ideal.cmp .une x x) c (Scalar.select (Ideal.cmp .oeq x (Ideal.ofBits .f32 0x00000000#32)) (Ideal.ofBits .f32 0x00000000#32) x) = x := by
  unfold Scalar.select Ideal.cmp
  by_cases h : x = Ideal.ofBits .f32 0x00000000#32
  · simp [← h]
  · simp [h]

variable {n : ℕ}

/-- Where the sorted row takes its entries from. -/
def src (g : Fin n → EReal) : Fin n → Fin n := sortedFrom fun k k' => lt1 (g k) (g k') == 1#1

theorem src_injective (g : Fin n → EReal) : Function.Injective (src g) := sortedFrom_injective _

theorem src_mono (g : Fin n → EReal) {i j : Fin n} (h : i ≤ j) : g (src g i) ≤ g (src g j) := by
  rcases h.eq_or_lt with h | h
  · rw [h]
  · have := sortedFrom_noInversion (fun k k' => lt1 (g k) (g k') == 1#1) (fun k k' => lt1 (g k) (g k') == 1#1)
      (fun a b h => by simp only [lt1_iff, decide_eq_true_eq, decide_eq_false_iff_not] at h ⊢; exact not_lt.mpr h.le)
      (fun _ _ h => h)
      (fun a b c h h' => by simp only [lt1_iff, decide_eq_false_iff_not, not_lt] at h h' ⊢; exact h'.trans h) i j h
    simp only [lt1_iff, decide_eq_false_iff_not, not_lt] at this
    unfold src
    simp only [lt1_iff]
    exact this

/-- The sorted row, by position. -/
def srt (n : ℕ) (f : ℕ → EReal) (i : ℕ) : EReal := if h : i < n then f (src (fun k : Fin n => f k) ⟨i, h⟩) else ⊤

theorem srt_mono (f : ℕ → EReal) {i j : ℕ} (h : i ≤ j) (hj : j < n) : srt n f i ≤ srt n f j := by
  unfold srt
  rw [dif_pos hj, dif_pos (h.trans_lt hj)]
  exact src_mono (fun k : Fin n => f k) (i := ⟨i, _⟩) (j := ⟨j, hj⟩) h

theorem srt_cnt (f : ℕ → EReal) (u : EReal) : cnt n (srt n f) u = cnt n f u :=
  cnt_perm (src fun k : Fin n => f k) (src_injective _) (fun i => dif_pos i.isLt) u

/-- Every entry is somewhere in the sorted row. -/
theorem exists_srt (f : ℕ → EReal) (a : ℕ) (ha : a < n) : ∃ i, ∃ h : i < n, (src (fun k : Fin n => f k) ⟨i, h⟩).val = a ∧ srt n f i = f a := by
  obtain ⟨i, hi⟩ := sortedFrom_surjective (fun k k' : Fin n => lt1 (f k) (f k') == 1#1) ⟨a, ha⟩
  have e : src (fun k : Fin n => f k) i = ⟨a, ha⟩ := hi
  refine ⟨i.val, i.isLt, congrArg Fin.val e, ?_⟩
  unfold srt
  rw [dif_pos i.isLt]
  exact congrArg (fun k : Fin n => f k) e

theorem le_cnt (f : ℕ → EReal) (p : ℕ) (hp : p < n) : n - p ≤ cnt n f (srt n f p) := by
  rw [← srt_cnt, cnt_eq_card]
  have : Finset.Ico p n ⊆ {i ∈ range n | srt n f p ≤ srt n f i} := fun i hi => by
    obtain ⟨h1, h2⟩ := Finset.mem_Ico.mp hi
    exact mem_filter.mpr ⟨mem_range.mpr h2, srt_mono f h1 h2⟩
  exact (Nat.card_Ico p n).symm.le.trans (card_le_card this)

theorem cnt_le (f : ℕ → EReal) (p : ℕ) (hp : p < n) {t : EReal} (h : srt n f p < t) : cnt n f t ≤ n - p - 1 := by
  rw [← srt_cnt, cnt_eq_card]
  have : {i ∈ range n | t ≤ srt n f i} ⊆ Finset.Ico (p + 1) n := fun i hi => by
    obtain ⟨h1, h2⟩ := mem_filter.mp hi
    refine Finset.mem_Ico.mpr ⟨?_, mem_range.mp h1⟩
    by_contra hn
    exact absurd (h2.trans (srt_mono f (by omega) hp)) (not_le.mpr h)
  exact (card_le_card this).trans (by rw [Nat.card_Ico]; omega)

theorem lt_of_eq (f : ℕ → EReal) {t : EReal} (h : ∀ i, i + 1 < n → srt n f i < srt n f (i + 1) ∨ srt n f (i + 1) < t)
    (a : ℕ) (ha : a < n) (b : ℕ) (hb : b < n) (hne : a ≠ b) (e : f a = f b) : f a < t := by
  obtain ⟨i, hi, hia, ei⟩ := exists_srt f a ha
  obtain ⟨j, hj, hjb, ej⟩ := exists_srt f b hb
  have key : ∀ i j, i < j → j < n → srt n f i = srt n f j → srt n f i < t := by
    intro i j hij hj e
    have h1 := srt_mono f (show i ≤ i + 1 by omega) (show i + 1 < n by omega)
    have h2 := srt_mono f (show i + 1 ≤ j by omega) hj
    rcases h i (by omega) with h | h
    · exact absurd (h.trans_le h2) (by rw [e]; exact lt_irrefl _)
    · exact h1.trans_lt h
  rcases lt_trichotomy i j with hij | hij | hij
  · rw [← ei]; exact key i j hij hj (by rw [ei, ej, e])
  · subst hij; exact absurd (hia.symm.trans hjb) hne
  · rw [e, ← ej]; exact key j i hij hi (by rw [ei, ej, e])

/-! ### The host's sort at an index -/

theorem sort_row {s : Shape} (d : Fin s.rank) (cmp : EReal → EReal → BitVec 1) (hc : ∀ l r, cmp l r = lt1 l r) (x : s.Idx → EReal) (j : s.Idx)
    (f : ℕ → EReal) (hf : ∀ k : Fin (s.size d), x (j.along d k) = f k.val) : Host.sort s d.val cmp x j = srt (s.size d) f (j d).val := by
  unfold Host.sort srt
  rw [dif_pos d.isLt, dif_pos (j d).isLt]
  have e : (fun k k' : Fin (s.size d) => cmp (x (j.along d k)) (x (j.along d k')) == 1#1) = fun k k' => lt1 (f k.val) (f k'.val) == 1#1 :=
    funext fun k => funext fun k' => by rw [hf, hf, hc]
  exact (congrArg (fun σ => x (j.along d (sortedFrom σ (j d)))) e).trans (hf _)

/-- A sort of two operands by the first: the second is read where the first's sorted row takes its entries from. -/
theorem sort2_row {s : Shape} {β : Type} (d : Fin s.rank) (cmp : EReal × β → EReal × β → BitVec 1) (hc : ∀ l r, cmp l r = lt1 l.1 r.1)
    (x : s.Idx → EReal) (y : s.Idx → β) (j : s.Idx) (f : ℕ → EReal) (hf : ∀ k : Fin (s.size d), x (j.along d k) = f k.val) :
    (Host.sort2 s d.val cmp x y).2 j = y (j.along d (src (fun k : Fin (s.size d) => f k.val) (j d))) := by
  unfold Host.sort2
  rw [dif_pos d.isLt]
  have e : (fun k k' : Fin (s.size d) => cmp (x (j.along d k), y (j.along d k)) (x (j.along d k'), y (j.along d k')) == 1#1)
      = fun k k' => lt1 (f k.val) (f k'.val) == 1#1 :=
    funext fun k => funext fun k' => by rw [hc, hf, hf]
  exact congrArg (fun σ => y (j.along d (sortedFrom σ (j d)))) e

end Cert.Sorted

end

end
-- ==== Proof.Tree.lean ====
/- # The candidates the kernel keeps, over the extended reals

A row of a vector as a function of the column, and along a row the tree of maxima: at each of its levels the pair of
vectors holds the two greatest entries of every class of columns. -/
module

public import Idealize.ShloMosaic.Lib.ValueIdx
public import Idealize.ShloMosaic.Lib.Pipeline.Value
public import proofs.«01_k».proof.Proof.Classes
public import proofs.«01_k».proof.Proof.ValuesI

@[expose] public section

noncomputable section

namespace Cert.KernelIdeal.Own

open Cert.KernelIdeal Cert.KernelIdeal.Gen Cert.Rank
open Idealize.ShloMosaic Idealize.ShloMosaic.ValueIdx

variable {C W : ℕ}

/-- Row `r` of a vector of 1024 rows, by column (and `⊥` past the last one). -/
def rowOf (v : FVec Ideal ⟨2, ![1024, C]⟩ .f32) (r : Fin 1024) (k : ℕ) : EReal :=
  if h : k < C then v (ix2 r ⟨k, h⟩) else ⊥

theorem rowOf_lt (v : FVec Ideal ⟨2, ![1024, C]⟩ .f32) (r : Fin 1024) {k : ℕ} (h : k < C) : rowOf v r k = v (ix2 r ⟨k, h⟩) :=
  dif_pos h

theorem rowOf_max (a b : FVec Ideal ⟨2, ![1024, C]⟩ .f32) (r : Fin 1024) (k : ℕ) :
    rowOf (maximumf a b) r k = max (rowOf a r k) (rowOf b r k) := by
  unfold rowOf; split_ifs <;> simp [maximumf_apply]

theorem rowOf_min (a b : FVec Ideal ⟨2, ![1024, C]⟩ .f32) (r : Fin 1024) (k : ℕ) :
    rowOf (minimumf a b) r k = min (rowOf a r k) (rowOf b r k) := by
  unfold rowOf; split_ifs <;> simp [minimumf_apply]

theorem ofBool_eq_one (p : Prop) [Decidable p] : (BitVec.ofBool (decide p) = 1#1) = p := by
  by_cases h : p <;> simp [h]

/-- A selection where one value is greater than another. -/
theorem rowOf_select_gt (a b x y : FVec Ideal ⟨2, ![1024, C]⟩ .f32) (r : Fin 1024) (k : ℕ) :
    rowOf (select (cmpf .ogt a b) x y) r k = if rowOf b r k < rowOf a r k then rowOf x r k else rowOf y r k := by
  unfold rowOf
  split_ifs with h h1 h1
  · exact if_pos ((ofBool_eq_one _).mpr h1)
  · exact if_neg fun h2 => h1 ((ofBool_eq_one _).mp h2)
  · rfl
  · rfl

theorem rowOf_slice (v : FVec Ideal ⟨2, ![1024, C]⟩ .f32) (o : ℕ) (h : (⟨2, ![1024, C]⟩ : Shape).Slices ![0, o] ⟨2, ![1024, W]⟩)
    (r : Fin 1024) (k : ℕ) (hk : k < W) :
    rowOf (extractStridedSlice ⟨2, ![1024, W]⟩ ![0, o] v h) r k = rowOf v r (k + o) := by
  have hb : o + W ≤ C := h.2 1
  rw [rowOf_lt _ _ hk, rowOf_lt _ _ (show k + o < C by omega)]
  refine extractStridedSlice_apply _ _ _ _ _ fun a => ?_
  match a with
  | ⟨0, _⟩ => exact (Nat.zero_add _).symm
  | ⟨1, _⟩ => exact Nat.add_comm k o

theorem rowOf_cat {A B : ℕ} (x : FVec Ideal ⟨2, ![1024, A]⟩ .f32) (y : FVec Ideal ⟨2, ![1024, B]⟩ .f32)
    (h : Shape.Concatenates [⟨2, ![1024, A]⟩, ⟨2, ![1024, B]⟩] ⟨2, ![1024, C]⟩ 1) (r : Fin 1024) (k : ℕ) (hk : k < C) :
    rowOf (concatenate ⟨2, ![1024, C]⟩ 1 [⟨⟨2, ![1024, A]⟩, x⟩, ⟨⟨2, ![1024, B]⟩, y⟩] h) r k
      = if k < A then rowOf x r k else rowOf y r (k - A) := by
  have hC : A + B = C := by
    have := h.2.2
    simpa using this
  rw [rowOf_lt _ _ hk]
  split_ifs with hA
  · rw [rowOf_lt _ _ hA]
    refine concatenate_pair_apply_left (s₁ := ⟨2, ![1024, A]⟩) (s₂ := ⟨2, ![1024, B]⟩) 1 x y h _ rfl _ fun b => ?_
    match b with
    | ⟨0, _⟩ => rfl
    | ⟨1, _⟩ => rfl
  · rw [rowOf_lt _ _ (show k - A < B by omega)]
    refine concatenate_pair_apply_right (s₁ := ⟨2, ![1024, A]⟩) (s₂ := ⟨2, ![1024, B]⟩) 1 x y h _ rfl rfl _ (fun b hb => ?_) ?_
    · match b with
      | ⟨0, _⟩ => rfl
      | ⟨1, _⟩ => exact absurd rfl hb
    · show k - A + A = k
      omega

/-- The greatest of a join. -/
def hi {s : Shape} (x y z w : FVec Ideal s .f32) : FVec Ideal s .f32 := maximumf (maximumf x y) (maximumf z w)

/-- The second of a join. -/
def lo {s : Shape} (x y z w : FVec Ideal s .f32) : FVec Ideal s .f32 :=
  maximumf (minimumf (maximumf x y) (maximumf z w)) (select (cmpf .ogt (maximumf x y) (maximumf z w)) (minimumf x y) (minimumf z w))

theorem rowOf_hi (x y z w : FVec Ideal ⟨2, ![1024, C]⟩ .f32) (r : Fin 1024) (k : ℕ) :
    rowOf (hi x y z w) r k = max (max (rowOf x r k) (rowOf y r k)) (max (rowOf z r k) (rowOf w r k)) := by
  unfold hi; simp only [rowOf_max]

theorem rowOf_lo (x y z w : FVec Ideal ⟨2, ![1024, C]⟩ .f32) (r : Fin 1024) (k : ℕ) :
    rowOf (lo x y z w) r k = second (rowOf x r k) (rowOf y r k) (rowOf z r k) (rowOf w r k) := by
  unfold lo second; simp only [rowOf_max, rowOf_min, rowOf_select_gt]

/-- A pair of rows holds the two greatest of every class modulo `W`. -/
def Cls (f : ℕ → EReal) (n W : ℕ) (t₁ t₂ : ℕ → EReal) : Prop :=
  ∀ k < W, Two (cnt n fun a => f (a * W + k)) (t₁ k) (t₂ k)

/-- One level of the tree. -/
theorem Cls.level {f : ℕ → EReal} {n : ℕ} {r : Fin 1024} {t₁ t₂ : FVec Ideal ⟨2, ![1024, C]⟩ .f32}
    (hC : C = 2 * W) (H : Cls f n C (rowOf t₁ r) (rowOf t₂ r))
    (h0 : (⟨2, ![1024, C]⟩ : Shape).Slices ![0, 0] ⟨2, ![1024, W]⟩) (h1 : (⟨2, ![1024, C]⟩ : Shape).Slices ![0, W] ⟨2, ![1024, W]⟩) :
    Cls f (2 * n) W
      (rowOf (hi (extractStridedSlice ⟨2, ![1024, W]⟩ ![0, 0] t₁ h0) (extractStridedSlice ⟨2, ![1024, W]⟩ ![0, W] t₁ h1)
        (extractStridedSlice ⟨2, ![1024, W]⟩ ![0, 0] t₂ h0) (extractStridedSlice ⟨2, ![1024, W]⟩ ![0, W] t₂ h1)) r)
      (rowOf (lo (extractStridedSlice ⟨2, ![1024, W]⟩ ![0, 0] t₁ h0) (extractStridedSlice ⟨2, ![1024, W]⟩ ![0, W] t₁ h1)
        (extractStridedSlice ⟨2, ![1024, W]⟩ ![0, 0] t₂ h0) (extractStridedSlice ⟨2, ![1024, W]⟩ ![0, W] t₂ h1)) r) := by
  subst hC
  intro k hk
  rw [rowOf_hi, rowOf_lo]
  simp only [rowOf_slice _ _ _ _ _ hk, Nat.add_zero]
  have h := (H k (by omega)).join (H (k + W) (by omega))
  exact fun u => by rw [cnt_halve n W f k u]; exact h u

/-- The candidates are the two greatest of every class modulo 64. -/
theorem candOf_cand {f : ℕ → EReal} {r : Fin 1024} (q : Fin 4 → FVec Ideal S1024x1024 .f32)
    (hq : ∀ i : Fin 4, ∀ k < 1024, rowOf (q i) r k = f (i.val * 1024 + k)) :
    Cand f (rowOf (candOf (F := Ideal) (q 0) (q 1) (q 2) (q 3)) r) := by
  have a0 : Cls f 4 1024 (rowOf (k0_pay6 (F := Ideal) (q 0) (q 1) (q 2) (q 3)) r) (rowOf (k0_pay7 (F := Ideal) (q 0) (q 1) (q 2) (q 3)) r) := by
    intro k hk
    have e6 : rowOf (k0_pay6 (F := Ideal) (q 0) (q 1) (q 2) (q 3)) r k = _ := rowOf_hi (q 0) (q 1) (q 2) (q 3) r k
    have e7 : rowOf (k0_pay7 (F := Ideal) (q 0) (q 1) (q 2) (q 3)) r k = _ := rowOf_lo (q 0) (q 1) (q 2) (q 3) r k
    rw [e6, e7, hq 0 k hk, hq 1 k hk, hq 2 k hk, hq 3 k hk]
    refine fun u => ?_
    have h := Two.four (f ((0 : Fin 4).val * 1024 + k)) (f ((1 : Fin 4).val * 1024 + k)) (f ((2 : Fin 4).val * 1024 + k)) (f ((3 : Fin 4).val * 1024 + k)) u
    have e : cnt 4 (fun a => f (a * 1024 + k)) u = (if u ≤ f (0 * 1024 + k) then 1 else 0) + (if u ≤ f (1 * 1024 + k) then 1 else 0)
        + (if u ≤ f (2 * 1024 + k) then 1 else 0) + (if u ≤ f (3 * 1024 + k) then 1 else 0) := by
      unfold cnt
      rw [Finset.sum_range_succ, Finset.sum_range_succ, Finset.sum_range_succ, Finset.sum_range_succ, Finset.sum_range_zero, Nat.zero_add]
    rw [e]
    exact h
  have a1 := a0.level (W := 512) rfl slices_S1024x1024_o0_0_S1024x512 slices_S1024x1024_o0_512_S1024x512
  have a2 := a1.level (W := 256) rfl slices_S1024x512_o0_0_S1024x256 slices_S1024x512_o0_256_S1024x256
  have a3 := a2.level (W := 128) rfl slices_S1024x256_o0_0_S1024x128 slices_S1024x256_o0_128_S1024x128
  have a4 := a3.level (W := 64) rfl slices_S1024x128_o0_0_S1024x64 slices_S1024x128_o0_64_S1024x64
  intro k hk
  have h := a4 k hk
  have c := rowOf_cat (C := 128)
    (hi (k0_pay32 (F := Ideal) (q 0) (q 1) (q 2) (q 3)) (k0_pay33 (q 0) (q 1) (q 2) (q 3)) (k0_pay34 (q 0) (q 1) (q 2) (q 3)) (k0_pay35 (q 0) (q 1) (q 2) (q 3)))
    (lo (k0_pay32 (F := Ideal) (q 0) (q 1) (q 2) (q 3)) (k0_pay33 (q 0) (q 1) (q 2) (q 3)) (k0_pay34 (q 0) (q 1) (q 2) (q 3)) (k0_pay35 (q 0) (q 1) (q 2) (q 3)))
    concatenates_S1024x64_S1024x64_S1024x128_d1 r
  have c1 : rowOf (candOf (F := Ideal) (q 0) (q 1) (q 2) (q 3)) r k = _ := (c k (by omega)).trans (if_pos hk)
  have c2 : rowOf (candOf (F := Ideal) (q 0) (q 1) (q 2) (q 3)) r (64 + k) = _ := (c (64 + k) (by omega)).trans (if_neg (by omega))
  rw [c1, c2, Nat.add_sub_cancel_left]
  exact h

end Cert.KernelIdeal.Own

end

end
-- ==== Proof.Pre.lean ====
/- # What the precondition says of a row

Of every row of a block: there is a value `t`, its 32nd greatest, that 32 entries reach, and over which the selection of a
half loses nothing. -/
module

public import proofs.«01_k».proof.Pre_nothing_lost_KernelIdeal
public import proofs.«01_k».proof.Proof.Sorted
public import proofs.«01_k».proof.Proof.Tree

@[expose] public section

noncomputable section

namespace Cert.Pre_nothing_lost_KernelIdeal.Own

open Cert.Rank Cert.Sorted Cert.Pre_nothing_lost_KernelIdeal
open Cert.KernelIdeal.Own (rowOf rowOf_lt)
open Idealize.ShloMosaic Idealize.ShloMosaic.ValueIdx

theorem cmp1 (l r : EReal) : comparator_f32_d1 (F := Ideal) l r = lt1 l r := by
  show Ideal.cmp .olt (Scalar.select (Ideal.cmp .une l l) _ (Scalar.select (Ideal.cmp .oeq l (Ideal.ofBits .f32 0x00000000#32)) (Ideal.ofBits .f32 0x00000000#32) l))
    (Scalar.select (Ideal.cmp .une r r) _ (Scalar.select (Ideal.cmp .oeq r (Ideal.ofBits .f32 0x00000000#32)) (Ideal.ofBits .f32 0x00000000#32) r)) = _
  rw [canon, canon]
  rfl

theorem cmp2 (l r : EReal) : comparator_f32_d2 (F := Ideal) l r = lt1 l r := cmp1 l r

variable [Facts] (x : FVec Ideal S1024x8192 .f32) (r : Fin 1024)

theorem sort_apply (j : Fin 8192) : fn_sort (F := Ideal) x (ix2 r j) = srt 8192 (rowOf x r) j.val := by
  refine sort_row (s := S1024x8192) 1 _ cmp1 x (ix2 r j) (rowOf x r) fun k => ?_
  refine Eq.trans (congrArg x ?_) (rowOf_lt x r k.isLt).symm
  funext a
  match a with
  | ⟨0, _⟩ => rfl
  | ⟨1, _⟩ => rfl

theorem sort0_apply (h : Fin 2) (j : Fin 4096) : fn_sort_0 (F := Ideal) (shapeCast S1024x2x4096 x Facts.shapeCasts_S1024x8192_S1024x2x4096) (ix3 r h j)
    = srt 4096 (fun i => rowOf x r (h.val * 4096 + i)) j.val := by
  refine sort_row (s := S1024x2x4096) 2 _ cmp2 _ (ix3 r h j) (fun i => rowOf x r (h.val * 4096 + i)) fun (k : Fin 4096) => ?_
  have hk : k.val < 4096 := k.isLt
  have hb : h.val * 4096 + k.val < 8192 := by have := h.isLt; omega
  have e : (ix3 r h j : S1024x2x4096.Idx).along 2 k = ix3 r h k := by
    funext a
    match a with
    | ⟨0, _⟩ => rfl
    | ⟨1, _⟩ => rfl
    | ⟨2, _⟩ => rfl
  rw [e, rowOf_lt x r hb]
  refine shapeCast_apply _ _ _ _ ?_
  rw [Shape.rowMajor_val_two, Shape.rowMajor_val_three]
  show r.val * 8192 + (h.val * 4096 + k.val) = (r.val * 2 + h.val) * 4096 + k.val
  omega

theorem sort1_apply (h : Fin 2) (j k : Fin 64) : fn_sort_1 (F := Ideal) (shapeCast S1024x2x64x64 x Facts.shapeCasts_S1024x8192_S1024x2x64x64) (ix4 r h j k)
    = srt 64 (fun a => rowOf x r (h.val * 4096 + (a * 64 + k.val))) j.val := by
  refine sort_row (s := S1024x2x64x64) 2 _ cmp2 _ (ix4 r h j k) (fun a => rowOf x r (h.val * 4096 + (a * 64 + k.val))) fun (a : Fin 64) => ?_
  have ha : a.val < 64 := a.isLt
  have hb : h.val * 4096 + (a.val * 64 + k.val) < 8192 := by have := h.isLt; have := k.isLt; omega
  have e : (ix4 r h j k : S1024x2x64x64.Idx).along 2 a = ix4 r h a k := by
    funext b
    match b with
    | ⟨0, _⟩ => rfl
    | ⟨1, _⟩ => rfl
    | ⟨2, _⟩ => rfl
    | ⟨3, _⟩ => rfl
  rw [e, rowOf_lt x r hb]
  refine shapeCast_apply _ _ _ _ ?_
  rw [Shape.rowMajor_val_two, Shape.rowMajor_val_four]
  show r.val * 8192 + (h.val * 4096 + (a.val * 64 + k.val)) = ((r.val * 2 + h.val) * 64 + a.val) * 64 + k.val
  omega

/-- The 32nd greatest value of a row. -/
def bound : EReal := srt 8192 (rowOf x r) 8160

theorem bound_apply (j : S1024x1.Idx) (hj : j = ix2 r 0) :
    extractStridedSlice S1024x1 ![0, 8160] (fn_sort (F := Ideal) x) Facts.slices_S1024x8192_S1024x1_0_8160 j = bound x r := by
  subst hj
  refine (extractStridedSlice_apply _ _ _ _ (ix2 r ⟨8160, by decide⟩) fun a => ?_).trans (sort_apply x r ⟨8160, by decide⟩)
  match a with
  | ⟨0, _⟩ => exact (Nat.zero_add _).symm
  | ⟨1, _⟩ => rfl

/-- The bound along the columns of a half, and along its classes. -/
theorem bound_cols (h : Fin 2) (i : Fin 4095) :
    broadcastInDim S1024x2x4095 ![0, 1, 2] Facts.bcast_S1024x1x1_S1024x2x4095_0_1_2 (broadcastInDim S1024x1x1 ![0, 1] Facts.bcast_S1024x1_S1024x1x1_0_1
      (extractStridedSlice S1024x1 ![0, 8160] (fn_sort (F := Ideal) x) Facts.slices_S1024x8192_S1024x1_0_8160)) (ix3 r h i) = bound x r := by
  refine (broadcastInDim_apply _ _ _ _ (ix3 r 0 0) fun a => ?_).trans
    ((broadcastInDim_apply _ _ _ _ (ix2 r 0) fun a => ?_).trans (bound_apply x r _ rfl))
  · match a with
    | ⟨0, _⟩ => exact (if_neg (show ¬(1024 : ℕ) = 1 by decide)).symm
    | ⟨1, _⟩ => exact (if_pos rfl).symm
    | ⟨2, _⟩ => exact (if_pos rfl).symm
  · match a with
    | ⟨0, _⟩ => exact (if_neg (show ¬(1024 : ℕ) = 1 by decide)).symm
    | ⟨1, _⟩ => exact (if_pos rfl).symm

theorem bound_classes (h : Fin 2) (i : Fin 64) :
    broadcastInDim S1024x2x64 ![0, 1, 2] Facts.bcast_S1024x1x1_S1024x2x64_0_1_2 (broadcastInDim S1024x1x1 ![0, 1] Facts.bcast_S1024x1_S1024x1x1_0_1
      (extractStridedSlice S1024x1 ![0, 8160] (fn_sort (F := Ideal) x) Facts.slices_S1024x8192_S1024x1_0_8160)) (ix3 r h i) = bound x r := by
  refine (broadcastInDim_apply _ _ _ _ (ix3 r 0 0) fun a => ?_).trans
    ((broadcastInDim_apply _ _ _ _ (ix2 r 0) fun a => ?_).trans (bound_apply x r _ rfl))
  · match a with
    | ⟨0, _⟩ => exact (if_neg (show ¬(1024 : ℕ) = 1 by decide)).symm
    | ⟨1, _⟩ => exact (if_pos rfl).symm
    | ⟨2, _⟩ => exact (if_pos rfl).symm
  · match a with
    | ⟨0, _⟩ => exact (if_neg (show ¬(1024 : ℕ) = 1 by decide)).symm
    | ⟨1, _⟩ => exact (if_pos rfl).symm

theorem third_apply (h : Fin 2) (k : Fin 64) :
    shapeCast S1024x2x64 (extractStridedSlice S1024x2x1x64 ![0, 0, 61, 0] (fn_sort_1 (F := Ideal)
      (shapeCast S1024x2x64x64 x Facts.shapeCasts_S1024x8192_S1024x2x64x64)) Facts.slices_S1024x2x64x64_S1024x2x1x64_0_0_61_0)
      Facts.shapeCasts_S1024x2x1x64_S1024x2x64 (ix3 r h k) = srt 64 (fun a => rowOf x r (h.val * 4096 + (a * 64 + k.val))) 61 := by
  refine (shapeCast_apply _ _ _ (ix4 r h 0 k) ?_).trans
    ((extractStridedSlice_apply _ _ _ _ (ix4 r h ⟨61, by decide⟩ k) fun a => ?_).trans (sort1_apply x r h ⟨61, by decide⟩ k))
  · rw [Shape.rowMajor_val_three, Shape.rowMajor_val_four]
    show ((r.val * 2 + h.val) * 1 + 0) * 64 + k.val = (r.val * 2 + h.val) * 64 + k.val
    omega
  · match a with
    | ⟨0, _⟩ => exact (Nat.zero_add _).symm
    | ⟨1, _⟩ => exact (Nat.zero_add _).symm
    | ⟨2, _⟩ => rfl
    | ⟨3, _⟩ => exact (Nat.zero_add _).symm

theorem left_apply (h : Fin 2) (i : Fin 4095) :
    extractStridedSlice S1024x2x4095 ![0, 0, 0] (fn_sort_0 (F := Ideal) (shapeCast S1024x2x4096 x Facts.shapeCasts_S1024x8192_S1024x2x4096))
      Facts.slices_S1024x2x4096_S1024x2x4095_0_0_0 (ix3 r h i) = srt 4096 (fun i => rowOf x r (h.val * 4096 + i)) i.val := by
  have hi : i.val < 4096 := i.isLt.trans (by decide)
  refine (extractStridedSlice_apply _ _ _ _ (ix3 r h ⟨i.val, hi⟩) fun a => ?_).trans (sort0_apply x r h ⟨i.val, hi⟩)
  match a with
  | ⟨0, _⟩ => exact (Nat.zero_add _).symm
  | ⟨1, _⟩ => exact (Nat.zero_add _).symm
  | ⟨2, _⟩ => exact (Nat.zero_add _).symm

theorem right_apply (h : Fin 2) (i : Fin 4095) :
    extractStridedSlice S1024x2x4095 ![0, 0, 1] (fn_sort_0 (F := Ideal) (shapeCast S1024x2x4096 x Facts.shapeCasts_S1024x8192_S1024x2x4096))
      Facts.slices_S1024x2x4096_S1024x2x4095_0_0_1 (ix3 r h i) = srt 4096 (fun i => rowOf x r (h.val * 4096 + i)) (i.val + 1) := by
  have hi : i.val + 1 < 4096 := Nat.succ_lt_succ i.isLt
  refine (extractStridedSlice_apply _ _ _ _ (ix3 r h ⟨i.val + 1, hi⟩) fun a => ?_).trans (sort0_apply x r h ⟨i.val + 1, hi⟩)
  match a with
  | ⟨0, _⟩ => exact (Nat.zero_add _).symm
  | ⟨1, _⟩ => exact (Nat.zero_add _).symm
  | ⟨2, _⟩ => exact Nat.add_comm _ _

theorem ori_one (a b : BitVec 1) : IntOp.ori a b = 1#1 → a = 1#1 ∨ b = 1#1 := by
  revert a b; decide

/-- The precondition, of one row. -/
theorem pre_row (h1 : (fn (F := Ideal) x).1 = fun _ => 1#1) (h2 : (fn (F := Ideal) x).2.1 = fun _ => 1#1)
    (h3 : (fn (F := Ideal) x).2.2 = fun _ => 1#1) :
    32 ≤ cnt 8192 (rowOf x r) (bound x r) ∧ ∀ h : Fin 2, Good (bound x r) fun i => rowOf x r (h.val * 4096 + i) := by
  refine ⟨(show 32 ≤ 8192 - 8160 by norm_num).trans (le_cnt (rowOf x r) 8160 (by norm_num)), fun h => ⟨fun k hk => ?_, fun a ha b hb => ?_, fun i hi => ?_⟩⟩
  · refine cnt_le (n := 64) (fun a => rowOf x r (h.val * 4096 + (a * 64 + k))) 61 (by decide) ?_
    have e := congrFun h3 (ix3 r h ⟨k, hk⟩)
    have e : lt1 _ _ = 1#1 := e
    beta_reduce at e
    rw [third_apply x r h ⟨k, hk⟩, bound_classes x r h ⟨k, hk⟩, lt1_true] at e
    exact e
  · refine lt_of_eq (n := 4096) (fun i => rowOf x r (h.val * 4096 + i)) ?_ a ha b hb
    intro i hi
    have hi : i < 4095 := by omega
    have e := congrFun h2 (ix3 r h (⟨i, hi⟩ : Fin 4095))
    have e : IntOp.ori (lt1 _ _) (lt1 _ _) = 1#1 := e
    beta_reduce at e
    rw [left_apply x r h ⟨i, hi⟩, right_apply x r h ⟨i, hi⟩, bound_cols x r h ⟨i, hi⟩] at e
    rcases ori_one _ _ e with e | e
    · exact Or.inl ((lt1_true _ _).mp e)
    · exact Or.inr ((lt1_true _ _).mp e)
  · have hb : h.val * 4096 + i < 8192 := by have := h.isLt; omega
    have e := congrFun h1 (ix2 r (⟨h.val * 4096 + i, hb⟩ : Fin 8192))
    have e : lt1 (x (ix2 r (⟨h.val * 4096 + i, hb⟩ : Fin 8192))) (Ideal.ofBits .f32 0x7F800000#32) = 1#1 := e
    beta_reduce at e
    rw [lt1_true, show Ideal.ofBits .f32 0x7F800000#32 = ⊤ from by simp [Ideal.ofBits, Ideal.ieee]] at e
    dsimp only
    rw [rowOf_lt x r hb]
    exact e

end Cert.Pre_nothing_lost_KernelIdeal.Own

end

end
-- ==== Proof.Select.lean ====
/- # The selection from the candidates, over the extended reals

Each step takes of every row the greatest candidate below the last one taken, and puts it at the next lane. After 32 steps
the descending list is a row of the greatest different candidates, and the ascending one is it reversed. -/
module

public import Idealize.ShloMosaic.PureOps.Ideal.Laws
public import proofs.«01_k».proof.Proof.Tree

@[expose] public section

noncomputable section

namespace Cert.KernelIdeal.Own

open Cert.KernelIdeal Cert.KernelIdeal.Gen Cert.Rank
open Idealize.ShloMosaic Idealize.ShloMosaic.ValueIdx

section
variable {F : FTy → Type} [FloatOps F]

/-- The greatest candidate of each row below the row's threshold. -/
def next (c : FVec F S1024x128 .f32) (b : FVec F S1024x1 .f32) : FVec F S1024x1 .f32 :=
  shapeCast S1024x1 (multiReduction .maximumf [1] S1024 (select (cmpf .olt c (broadcastTo S1024x128 b broadcasts_S1024x1_S1024x128)) c
    (broadcast S1024x128 (Scalar.ofBits .f32 0xFF800000#32))) 0xFF800000#32 reduces_S1024x128_S1024 (.inl rfl) rfl) shapeCasts_S1024_S1024x1

/-- A list with the threshold of each row put at lane `i`. -/
def put (i : BitVec 32) (b : FVec F S1024x1 .f32) (a : FVec F S1024x32 .f32) : FVec F S1024x32 .f32 :=
  select (cmpi .eq lanes (broadcast S1024x32 i)) (broadcastTo S1024x32 (shapeCast S1024x1 b shapeCasts_S1024x1_S1024x1) broadcasts_S1024x1_S1024x32) a

/-- The threshold after `n` steps. -/
def thrN (c : FVec F S1024x128 .f32) : ℕ → FVec F S1024x1 .f32
  | 0 => k0_pay2
  | n + 1 => next c (thrN c n)

/-- The descending list after `n` steps. -/
def descN (c : FVec F S1024x128 .f32) : ℕ → FVec F S1024x32 .f32
  | 0 => k0_pay3
  | n + 1 => put (BitVec.ofNat 32 n) (thrN c (n + 1)) (descN c n)

/-- The ascending list after `n` steps. -/
def ascN (c : FVec F S1024x128 .f32) : ℕ → FVec F S1024x32 .f32
  | 0 => k0_pay3
  | n + 1 => put (BitVec.ofNat 32 (31 - n)) (thrN c (n + 1)) (ascN c n)

theorem localSel_eq (a b c d : Vec F S1024x1024 .f32) :
    localSel a b c d = (descN (candOf a b c d) 32, shapeCast S1x1024x32 (ascN (candOf a b c d) 32) shapeCasts_S1024x32_S1x1024x32) :=
  rfl

end

theorem ofBits_neg_inf : Ideal.ofBits .f32 0xFF800000#32 = ⊥ := by simp [Ideal.ofBits, Ideal.ieee]
theorem ofBits_inf : Ideal.ofBits .f32 0x7F800000#32 = ⊤ := by simp [Ideal.ofBits, Ideal.ieee]

theorem fold_max_below (n : ℕ) (f g : ℕ → EReal) (b : EReal) (h : ∀ i < n, g i = if f i < b then f i else ⊥) :
    (Finset.univ : Finset (Fin n)).fold max ⊥ (fun i => g i.val) = below n f b := by
  unfold below
  have e : (Finset.range n).sup (fun i => if f i < b then f i else ⊥) = (Finset.range n).sup g :=
    Finset.sup_congr rfl fun i hi => (h i (Finset.mem_range.mp hi)).symm
  rw [e]
  apply le_antisymm
  · refine Finset.fold_max_le _ |>.mpr ⟨bot_le, fun i _ => Finset.le_sup (f := g) (Finset.mem_range.mpr i.isLt)⟩
  · refine Finset.sup_le fun i hi => ?_
    exact (Finset.le_fold_max _).mpr (Or.inr ⟨⟨i, Finset.mem_range.mp hi⟩, Finset.mem_univ _, le_rfl⟩)

theorem bcast_apply {n : ℕ} (b : FVec Ideal S1024x1 .f32) (h : S1024x1.Broadcasts ⟨2, ![1024, n]⟩) (r : Fin 1024) (k : Fin n) :
    broadcastTo ⟨2, ![1024, n]⟩ b h (ix2 r k) = b (ix2 r 0) := by
  refine broadcastTo_apply _ _ _ _ fun a => ?_
  match a with
  | ⟨0, _⟩ => rfl
  | ⟨1, _⟩ => rfl

theorem lift_row (h : S1024x128.Reduces [1] S1024) (r : Fin 1024) (k : Fin 128) : h.lift (ix1 r) k = ix2 r k := by
  have e : h.drop (ix2 r k) = ix1 r := by
    funext a
    match a with
    | ⟨0, _⟩ => rfl
  exact (congrArg (fun j => h.lift j k) e).symm.trans (h.lift_drop (ix2 r k))

/-- The greatest of a row. -/
theorem rowMax (x : FVec Ideal S1024x128 .f32) (r : Fin 1024) :
    multiReduction .maximumf [1] S1024 x 0xFF800000#32 reduces_S1024x128_S1024 (.inl rfl) rfl (ix1 r)
      = (Finset.univ : Finset (Fin 128)).fold max ⊥ fun k => x (ix2 r k) := by
  refine (Ideal.multiReduction_maximumf_single (s := S1024x128) (t := S1024) (a := 1) x _ reduces_S1024x128_S1024 _ _ (ix1 r)).trans ?_
  have e : x ∘ reduces_S1024x128_S1024.lift (ix1 r) = fun k : Fin 128 => x (ix2 r k) :=
    funext fun k => congrArg x (lift_row _ r k)
  rw [e]
  exact congrArg (fun b => (Finset.univ : Finset (Fin 128)).fold max b fun k => x (ix2 r k)) ofBits_neg_inf

theorem next_apply (c : FVec Ideal S1024x128 .f32) (b : FVec Ideal S1024x1 .f32) (r : Fin 1024) :
    next c b (ix2 r 0) = below 128 (rowOf c r) (b (ix2 r 0)) := by
  refine (shapeCast_apply _ _ _ (ix1 r) (by rw [Shape.rowMajor_val_one, Shape.rowMajor_val_two]; simp)).trans ?_
  refine (rowMax _ r).trans ?_
  rw [← fold_max_below 128 (rowOf c r) (fun k => if rowOf c r k < b (ix2 r 0) then rowOf c r k else ⊥) _ fun _ _ => rfl]
  refine congrArg (fun g => (Finset.univ : Finset (Fin 128)).fold max ⊥ g) (funext fun k => ?_)
  have e : broadcastTo S1024x128 b broadcasts_S1024x1_S1024x128 (ix2 r k) = b (ix2 r 0) := bcast_apply b _ r k
  rw [rowOf_lt c r k.isLt, select_apply, cmpf_apply, e]
  show (if BitVec.ofBool (decide (c (ix2 r k) < b (ix2 r 0))) = 1#1 then c (ix2 r k) else Ideal.ofBits .f32 0xFF800000#32) = _
  rw [ofBits_neg_inf]
  exact if_congr (iff_of_eq (ofBool_eq_one _)) rfl rfl

theorem thrN_apply (c : FVec Ideal S1024x128 .f32) (r : Fin 1024) (n : ℕ) : thrN c n (ix2 r 0) = thr 128 (rowOf c r) n := by
  induction n with
  | zero => exact ofBits_inf
  | succ n ih => exact (next_apply c _ r).trans (congrArg (below 128 (rowOf c r)) ih)

theorem lanes_apply (r : Fin 1024) (k : Fin 32) : lanes (ix2 r k) = BitVec.ofNat 32 k.val := by
  show BitVec.ofNat 32 (0 * 32 + k.val) = _
  rw [Nat.zero_mul, Nat.zero_add]

theorem rowOf_put (i : ℕ) (hi : i < 32) (b : FVec Ideal S1024x1 .f32) (a : FVec Ideal S1024x32 .f32) (r : Fin 1024) (k : ℕ) (hk : k < 32) :
    rowOf (put (BitVec.ofNat 32 i) b a) r k = if k = i then b (ix2 r 0) else rowOf a r k := by
  rw [rowOf_lt _ _ hk, rowOf_lt _ _ hk]
  have e : broadcastTo S1024x32 (shapeCast S1024x1 b shapeCasts_S1024x1_S1024x1) broadcasts_S1024x1_S1024x32 (ix2 r ⟨k, hk⟩) = b (ix2 r 0) :=
    (bcast_apply _ _ r ⟨k, hk⟩).trans (shapeCast_apply _ _ _ _ rfl)
  have e2 : cmpi .eq lanes (broadcast S1024x32 (BitVec.ofNat 32 i)) (ix2 r ⟨k, hk⟩) = BitVec.ofBool (decide (k = i)) := by
    show BitVec.ofBool (lanes (ix2 r ⟨k, hk⟩) == BitVec.ofNat 32 i) = _
    rw [lanes_apply]
    congr 1
    rw [Bool.beq_eq_decide_eq]
    refine decide_eq_decide.mpr ⟨fun h => ?_, fun h => by simp only [h]⟩
    have := congrArg BitVec.toNat h
    simp only [BitVec.toNat_ofNat] at this
    omega
  unfold put
  rw [select_apply, e, e2]
  show (if BitVec.ofBool (decide (k = i)) = 1#1 then _ else _) = _
  exact if_congr (iff_of_eq (ofBool_eq_one _)) rfl rfl

theorem descN_apply (c : FVec Ideal S1024x128 .f32) (r : Fin 1024) (n : ℕ) (hn : n ≤ 32) (k : ℕ) (hk : k < n) :
    rowOf (descN c n) r k = thr 128 (rowOf c r) (k + 1) := by
  induction n with
  | zero => omega
  | succ n ih =>
    refine (rowOf_put n (by omega) _ _ r k (by omega)).trans ?_
    split_ifs with h
    · rw [h]; exact thrN_apply c r (n + 1)
    · exact ih (by omega) (by omega)

theorem ascN_apply (c : FVec Ideal S1024x128 .f32) (r : Fin 1024) (n : ℕ) (hn : n ≤ 32) (k : ℕ) (hk : k < n) :
    rowOf (ascN c n) r (31 - k) = thr 128 (rowOf c r) (k + 1) := by
  induction n with
  | zero => omega
  | succ n ih =>
    refine (rowOf_put (31 - n) (by omega) _ _ r (31 - k) (by omega)).trans ?_
    split_ifs with h
    · rw [show k = n by omega]; exact thrN_apply c r (n + 1)
    · exact ih (by omega) (by omega)

/-- A stored ascending list, by row. -/
def rowOf3 (v : FVec Ideal S1x1024x32 .f32) (r : Fin 1024) (k : ℕ) : EReal :=
  if h : k < 32 then v (ix3 0 r ⟨k, h⟩) else ⊥

theorem rowOf3_cast (v : FVec Ideal S1024x32 .f32) (r : Fin 1024) (k : ℕ) :
    rowOf3 (shapeCast S1x1024x32 v shapeCasts_S1024x32_S1x1024x32) r k = rowOf v r k := by
  unfold rowOf3 rowOf
  split_ifs with h
  · exact shapeCast_apply _ _ _ _ (by rw [Shape.rowMajor_val_two, Shape.rowMajor_val_three]; simp)
  · rfl

theorem rowOf_cast3 (v : FVec Ideal S1x1024x32 .f32) (r : Fin 1024) (k : ℕ) :
    rowOf (shapeCast S1024x32 v shapeCasts_S1x1024x32_S1024x32) r k = rowOf3 v r k := by
  unfold rowOf3 rowOf
  split_ifs with h
  · exact shapeCast_apply _ _ _ _ (by rw [Shape.rowMajor_val_two, Shape.rowMajor_val_three]; simp)
  · rfl

/-- The lists of a half block, counted by the different values of its candidates. -/
theorem localSel_top (a b c d : FVec Ideal S1024x1024 .f32) (r : Fin 1024) :
    Top (rowOf (localSel (F := Ideal) a b c d).1 r) (fun u => (vals 128 (rowOf (candOf (F := Ideal) a b c d) r) u).card)
      ∧ Top (fun k => rowOf3 (localSel (F := Ideal) a b c d).2 r (31 - k)) (fun u => (vals 128 (rowOf (candOf (F := Ideal) a b c d) r) u).card) := by
  have h := top_thr 128 (rowOf (candOf (F := Ideal) a b c d) r)
  rw [localSel_eq]
  refine ⟨fun j hj u hu => ?_, fun j hj u hu => ?_⟩
  · have := h j hj u hu
    dsimp only at this ⊢
    rwa [descN_apply (candOf (F := Ideal) a b c d) r 32 le_rfl j hj]
  · have := h j hj u hu
    dsimp only at this ⊢
    rwa [rowOf3_cast, ascN_apply (candOf (F := Ideal) a b c d) r 32 le_rfl j hj]

end Cert.KernelIdeal.Own

end

end
-- ==== Proof.Network.lean ====
/- # The merging network

A descending list and an ascending one are laid over each other by the maximum and sorted by five stages of exchanges, at
distances 16, 8, 4, 2 and 1. Reaching a threshold goes through maxima and minima, so the network is known by what it does to
lists of bits, and on the lists that arise, ones at both ends, that is a finite check. -/
module

public import proofs.«01_k».proof.Proof.Rank

@[expose] public section

namespace Cert.Rank

variable {α : Type} [LinearOrder α]

/-- One stage at distance `d`: descending, or with the minima first for `asc`. -/
def stage (asc : Bool) (d : ℕ) (v : ℕ → α) (i : ℕ) : α :=
  if i % (2 * d) < d then (if asc then min (v i) (v (i + d)) else max (v i) (v (i + d)))
  else (if asc then max (v i) (v (i - d)) else min (v i) (v (i - d)))

/-- The five stages. -/
def net (asc : Bool) (v : ℕ → α) : ℕ → α :=
  stage asc 1 (stage asc 2 (stage asc 4 (stage asc 8 (stage asc 16 v))))

/-- A stage on bits. -/
def bstage (asc : Bool) (d : ℕ) (b : ℕ → Bool) (i : ℕ) : Bool :=
  if i % (2 * d) < d then (if asc then b i && b (i + d) else b i || b (i + d))
  else (if asc then b i || b (i - d) else b i && b (i - d))

theorem le_stage (asc : Bool) (d : ℕ) (v : ℕ → α) (u : α) (i : ℕ) :
    decide (u ≤ stage asc d v i) = bstage asc d (fun i => decide (u ≤ v i)) i := by
  unfold stage bstage
  cases asc <;> by_cases h : i % (2 * d) < d <;> simp [h, le_max_iff, le_min_iff]

theorem bstage_congr (asc : Bool) (d : ℕ) (hd : d ∣ 16) {b b' : ℕ → Bool} (h : ∀ i < 32, b i = b' i) (i : ℕ) (hi : i < 32) :
    bstage asc d b i = bstage asc d b' i := by
  have hd0 : d ≤ 16 := Nat.le_of_dvd (by decide) hd
  have h1 : i % (2 * d) < d → i + d < 32 := by
    intro hm
    have h5 : d = 1 ∨ d = 2 ∨ d = 4 ∨ d = 8 ∨ d = 16 := by
      have : ∀ d ≤ 16, d ∣ 16 → d = 1 ∨ d = 2 ∨ d = 4 ∨ d = 8 ∨ d = 16 := by decide
      exact this d hd0 hd
    rcases h5 with rfl | rfl | rfl | rfl | rfl <;> omega
  unfold bstage
  by_cases hm : i % (2 * d) < d
  · rw [if_pos hm, if_pos hm, h i hi, h (i + d) (h1 hm)]
  · rw [if_neg hm, if_neg hm, h i hi, h (i - d) (by omega)]

/-- The lanes that are first of a pair, as the bits of a number. -/
def first (d : ℕ) : ℕ :=
  if d = 16 then 0x0000FFFF else if d = 8 then 0x00FF00FF else if d = 4 then 0x0F0F0F0F else if d = 2 then 0x33333333 else 0x55555555

/-- A stage on the bits of a number. -/
def nstage (asc : Bool) (d : ℕ) (x : ℕ) : ℕ :=
  if asc then ((x &&& (x >>> d)) &&& first d) ||| ((x ||| (x <<< d)) &&& (0xFFFFFFFF ^^^ first d))
  else ((x ||| (x >>> d)) &&& first d) ||| ((x &&& (x <<< d)) &&& (0xFFFFFFFF ^^^ first d))

theorem first_testBit : ∀ d ∈ [1, 2, 4, 8, 16], ∀ i < 32, (first d).testBit i = decide (i % (2 * d) < d) := by decide

theorem ones_testBit : ∀ i < 32, (0xFFFFFFFF : ℕ).testBit i = true := by decide

theorem nstage_testBit (asc : Bool) (d : ℕ) (hd : d ∈ [1, 2, 4, 8, 16]) (x i : ℕ) (hi : i < 32) :
    (nstage asc d x).testBit i = bstage asc d x.testBit i := by
  have h1 := first_testBit d hd i hi
  have h2 := ones_testBit i hi
  have h3 : ¬ i % (2 * d) < d → d ≤ i := by
    intro hm
    by_contra hlt
    exact hm (by rw [Nat.mod_eq_of_lt (by omega)]; omega)
  unfold nstage bstage
  by_cases hm : i % (2 * d) < d
  · cases asc <;> simp [Nat.testBit_or, Nat.testBit_and, Nat.testBit_xor, Nat.testBit_shiftRight, Nat.testBit_shiftLeft, h1, h2, hm, Nat.add_comm]
  · have := h3 hm
    cases asc <;> simp [Nat.testBit_or, Nat.testBit_and, Nat.testBit_xor, Nat.testBit_shiftRight, Nat.testBit_shiftLeft, h1, h2, hm, this]

/-- The five stages on the bits of a number. -/
def nnet (asc : Bool) (x : ℕ) : ℕ :=
  nstage asc 1 (nstage asc 2 (nstage asc 4 (nstage asc 8 (nstage asc 16 x))))

/-- Ones at the first `p` lanes and the last `q`. -/
def ends (p q : ℕ) : ℕ := (2 ^ p - 1) ||| ((2 ^ q - 1) <<< (32 - q))

theorem ends_testBit : ∀ p < 33, ∀ q < 33, ∀ i < 32, (ends p q).testBit i = (decide (i < p) || decide (31 - i < q)) := by
  decide +kernel

theorem nnet_ends : ∀ p < 33, ∀ q < 33, nnet false (ends p q) = ends (min 32 (p + q)) 0 ∧ nnet true (ends p q) = ends 0 (min 32 (p + q)) := by
  decide +kernel

theorem le_net (asc : Bool) (v : ℕ → α) (u : α) {p q : ℕ} (hp : p < 33) (hq : q < 33)
    (h : ∀ i < 32, decide (u ≤ v i) = (decide (i < p) || decide (31 - i < q))) (i : ℕ) (hi : i < 32) :
    decide (u ≤ net asc v i) = (nnet asc (ends p q)).testBit i := by
  have step : ∀ d ∈ [1, 2, 4, 8, 16], d ∣ 16 → ∀ (w : ℕ → α) (x : ℕ), (∀ i < 32, decide (u ≤ w i) = x.testBit i) →
      ∀ i < 32, decide (u ≤ stage asc d w i) = (nstage asc d x).testBit i := by
    intro d hd hd' w x hw i hi
    rw [le_stage, nstage_testBit asc d hd x i hi]
    exact bstage_congr asc d hd' hw i hi
  have h0 : ∀ i < 32, decide (u ≤ v i) = (ends p q).testBit i := fun i hi => (h i hi).trans (ends_testBit p hp q hq i hi).symm
  exact step 1 (by decide) (by decide) _ _ (step 2 (by decide) (by decide) _ _ (step 4 (by decide) (by decide) _ _
    (step 8 (by decide) (by decide) _ _ (step 16 (by decide) (by decide) _ _ h0)))) i hi

section merge
variable [OrderBot α] {L₁ L₂ v : ℕ → α} {c₁ c₂ : α → ℕ}

theorem reach (h₁ : Top L₁ c₁) (h₂ : Top L₂ c₂) (hv : ∀ i < 32, v i = max (L₁ i) (L₂ (31 - i))) (u : α) (hu : u ≠ ⊥) :
    ∀ i < 32, decide (u ≤ v i) = (decide (i < min 32 (c₁ u)) || decide (31 - i < min 32 (c₂ u))) := by
  intro i hi
  rw [hv i hi, Bool.decide_congr le_max_iff, Bool.decide_or]
  congr 1
  · exact decide_eq_decide.mpr ((h₁ i hi u hu).trans (by omega))
  · exact decide_eq_decide.mpr ((h₂ (31 - i) (by omega) u hu).trans (by omega))

/-- The descending network merges two lists. -/
theorem Top.merge (h₁ : Top L₁ c₁) (h₂ : Top L₂ c₂) (hv : ∀ i < 32, v i = max (L₁ i) (L₂ (31 - i))) :
    Top (net false v) fun u => c₁ u + c₂ u := by
  intro j hj u hu
  have h := le_net false v u (p := min 32 (c₁ u)) (q := min 32 (c₂ u)) (by omega) (by omega) (reach h₁ h₂ hv u hu) j hj
  rw [(nnet_ends _ (by omega) _ (by omega)).1, ends_testBit _ (by omega) _ (by omega) j hj] at h
  refine decide_eq_true_iff.symm.trans ?_
  rw [h]
  simp only [Bool.or_eq_true, decide_eq_true_eq]
  omega

/-- The ascending network merges them into the same list, reversed. -/
theorem Top.merge_asc (h₁ : Top L₁ c₁) (h₂ : Top L₂ c₂) (hv : ∀ i < 32, v i = max (L₁ i) (L₂ (31 - i))) :
    Top (fun i => net true v (31 - i)) fun u => c₁ u + c₂ u := by
  intro j hj u hu
  have h := le_net true v u (p := min 32 (c₁ u)) (q := min 32 (c₂ u)) (by omega) (by omega) (reach h₁ h₂ hv u hu) (31 - j) (by omega)
  rw [(nnet_ends _ (by omega) _ (by omega)).2, ends_testBit _ (by omega) _ (by omega) (31 - j) (by omega)] at h
  refine decide_eq_true_iff.symm.trans ?_
  rw [h]
  simp only [Bool.or_eq_true, decide_eq_true_eq]
  omega

end merge

end Cert.Rank

end
-- ==== Proof.Merge.lean ====
/- # The merges, over the extended reals

A stage of the merging network on vectors: lanes whose number modulo `2 * d` is below `d` take the maximum (or minimum) with
the lane `d` to the right, the others the minimum (or maximum) with the lane `d` to the left. Both merges are five such
stages. -/
module

public import proofs.«01_k».proof.Proof.Network
public import proofs.«01_k».proof.Proof.Select

@[expose] public section

noncomputable section

namespace Cert.KernelIdeal.Own

open Cert.KernelIdeal Cert.KernelIdeal.Gen Cert.Rank
open Idealize.ShloMosaic Idealize.ShloMosaic.ValueIdx

/-- The lane numbers modulo `w`, as the program computes them. -/
def laneMod (w : BitVec 32) : IVec S1024x32 32 :=
  select (andi (xori (cmpi .slt (remsi lanes (broadcast S1024x32 w)) (broadcast S1024x32 0#32))
      (broadcastTo S1024x32 (broadcast S1024x32 (Scalar.cmpi .slt w 0#32)) broadcasts_S1024x32_S1024x32))
      (cmpi .ne (remsi lanes (broadcast S1024x32 w)) (broadcast S1024x32 0#32)))
    (addi (remsi lanes (broadcast S1024x32 w)) (broadcast S1024x32 w)) (remsi lanes (broadcast S1024x32 w))

/-- The lanes that are first of their pair. -/
def firsts (W d : BitVec 32) : IVec S1024x32 1 :=
  cmpi .slt (laneMod (Scalar.select (Scalar.cmpi .eq W 0#32) 1#32 W)) (broadcast S1024x32 d)

section
variable {F : FTy → Type} [FloatOps F] {a b : ℕ}

/-- The rows turned left by `b` lanes. -/
def rot (v : FVec F S1024x32 .f32) (h1 : S1024x32.Slices ![0, b] ⟨2, ![1024, a]⟩) (h0 : S1024x32.Slices ![0, 0] ⟨2, ![1024, b]⟩)
    (hc : Shape.Concatenates [⟨2, ![1024, a]⟩, ⟨2, ![1024, b]⟩] S1024x32 1) : FVec F S1024x32 .f32 :=
  concatenate S1024x32 1 [⟨⟨2, ![1024, a]⟩, extractStridedSlice ⟨2, ![1024, a]⟩ ![0, b] v h1⟩,
    ⟨⟨2, ![1024, b]⟩, extractStridedSlice ⟨2, ![1024, b]⟩ ![0, 0] v h0⟩] hc

/-- The shapes of a stage at distance `b`. -/
structure Cuts (a b : ℕ) : Prop where
  l1 : S1024x32.Slices ![0, b] ⟨2, ![1024, a]⟩
  l0 : S1024x32.Slices ![0, 0] ⟨2, ![1024, b]⟩
  lc : Shape.Concatenates [⟨2, ![1024, a]⟩, ⟨2, ![1024, b]⟩] S1024x32 1
  r1 : S1024x32.Slices ![0, a] ⟨2, ![1024, b]⟩
  r0 : S1024x32.Slices ![0, 0] ⟨2, ![1024, a]⟩
  rc : Shape.Concatenates [⟨2, ![1024, b]⟩, ⟨2, ![1024, a]⟩] S1024x32 1

/-- One stage, descending. -/
def stageD (W d : BitVec 32) (c : Cuts a b) (v : FVec F S1024x32 .f32) : FVec F S1024x32 .f32 :=
  select (firsts W d) (maximumf v (rot v c.l1 c.l0 c.lc)) (minimumf v (rot v c.r1 c.r0 c.rc))

/-- One stage, ascending. -/
def stageA (W d : BitVec 32) (c : Cuts a b) (v : FVec F S1024x32 .f32) : FVec F S1024x32 .f32 :=
  select (firsts W d) (minimumf v (rot v c.l1 c.l0 c.lc)) (maximumf v (rot v c.r1 c.r0 c.rc))

theorem c16 : Cuts 16 16 := ⟨slices_S1024x32_o0_16_S1024x16, slices_S1024x32_o0_0_S1024x16, concatenates_S1024x16_S1024x16_S1024x32_d1,
  slices_S1024x32_o0_16_S1024x16, slices_S1024x32_o0_0_S1024x16, concatenates_S1024x16_S1024x16_S1024x32_d1⟩
theorem c8 : Cuts 24 8 := ⟨slices_S1024x32_o0_8_S1024x24, slices_S1024x32_o0_0_S1024x8, concatenates_S1024x24_S1024x8_S1024x32_d1,
  slices_S1024x32_o0_24_S1024x8, slices_S1024x32_o0_0_S1024x24, concatenates_S1024x8_S1024x24_S1024x32_d1⟩
theorem c4 : Cuts 28 4 := ⟨slices_S1024x32_o0_4_S1024x28, slices_S1024x32_o0_0_S1024x4, concatenates_S1024x28_S1024x4_S1024x32_d1,
  slices_S1024x32_o0_28_S1024x4, slices_S1024x32_o0_0_S1024x28, concatenates_S1024x4_S1024x28_S1024x32_d1⟩
theorem c2 : Cuts 30 2 := ⟨slices_S1024x32_o0_2_S1024x30, slices_S1024x32_o0_0_S1024x2, concatenates_S1024x30_S1024x2_S1024x32_d1,
  slices_S1024x32_o0_30_S1024x2, slices_S1024x32_o0_0_S1024x30, concatenates_S1024x2_S1024x30_S1024x32_d1⟩
theorem c1 : Cuts 31 1 := ⟨slices_S1024x32_o0_1_S1024x31, slices_S1024x32_o0_0_S1024x1, concatenates_S1024x31_S1024x1_S1024x32_d1,
  slices_S1024x32_o0_31_S1024x1, slices_S1024x32_o0_0_S1024x31, concatenates_S1024x1_S1024x31_S1024x32_d1⟩

/-- The five stages, descending and ascending. -/
def netD (v : FVec F S1024x32 .f32) : FVec F S1024x32 .f32 :=
  stageD 2#32 1#32 c1 (stageD 4#32 2#32 c2 (stageD 8#32 4#32 c4 (stageD 16#32 8#32 c8 (stageD 32#32 16#32 c16 v))))
def netA (v : FVec F S1024x32 .f32) : FVec F S1024x32 .f32 :=
  stageA 2#32 1#32 c1 (stageA 4#32 2#32 c2 (stageA 8#32 4#32 c4 (stageA 16#32 8#32 c8 (stageA 32#32 16#32 c16 v))))

/-- A list with a stored reversed list laid over it. -/
def over (v : FVec F S1024x32 .f32) (w : FVec F S1x1024x32 .f32) : FVec F S1024x32 .f32 :=
  maximumf v (shapeCast S1024x32 w shapeCasts_S1x1024x32_S1024x32)

theorem mergeA_eq (v : FVec F S1024x32 .f32) (w : FVec F S1x1024x32 .f32) :
    mergeA v w = (netD (over v w), shapeCast S1x1024x32 (netA (over v w)) shapeCasts_S1024x32_S1x1024x32) := rfl

theorem mergeB_eq (v : FVec F S1024x32 .f32) (w : FVec F S1x1024x32 .f32) : mergeB v w = netD (over v w) := rfl

end

/-- The program's modulo at one lane number. -/
def lane1 (w x : BitVec 32) : BitVec 32 :=
  Scalar.select (IntOp.andi (IntOp.xori (IntOp.cmpi .slt (IntOp.remsi .vector x w) 0#32) (Scalar.cmpi .slt w 0#32)) (IntOp.cmpi .ne (IntOp.remsi .vector x w) 0#32))
    (IntOp.addi (IntOp.remsi .vector x w) w) (IntOp.remsi .vector x w)

theorem firsts_lane (W d : BitVec 32) (r : Fin 1024) (k : Fin 32) :
    firsts W d (ix2 r k) = IntOp.cmpi .slt (lane1 (Scalar.select (Scalar.cmpi .eq W 0#32) 1#32 W) (BitVec.ofNat 32 k.val)) d := by
  rw [← lanes_apply r k]
  rfl

theorem lane1_first : ∀ d ∈ [1, 2, 4, 8, 16], ∀ k < 32,
    IntOp.cmpi .slt (lane1 (Scalar.select (Scalar.cmpi .eq (BitVec.ofNat 32 (2 * d)) 0#32) 1#32 (BitVec.ofNat 32 (2 * d))) (BitVec.ofNat 32 k)) (BitVec.ofNat 32 d)
      = BitVec.ofBool (decide (k % (2 * d) < d)) := by decide +kernel

theorem firsts_apply (d : ℕ) (hd : d ∈ [1, 2, 4, 8, 16]) (r : Fin 1024) (k : Fin 32) :
    firsts (BitVec.ofNat 32 (2 * d)) (BitVec.ofNat 32 d) (ix2 r k) = BitVec.ofBool (decide (k.val % (2 * d) < d)) :=
  (firsts_lane _ _ r k).trans (lane1_first d hd k.val k.isLt)

theorem rowOf_firsts (d : ℕ) (hd : d ∈ [1, 2, 4, 8, 16]) (x y : FVec Ideal S1024x32 .f32) (r : Fin 1024) (k : ℕ) (hk : k < 32) :
    rowOf (select (firsts (BitVec.ofNat 32 (2 * d)) (BitVec.ofNat 32 d)) x y) r k
      = if k % (2 * d) < d then rowOf x r k else rowOf y r k := by
  rw [rowOf_lt _ _ hk, rowOf_lt _ _ hk, rowOf_lt _ _ hk, select_apply, firsts_apply d hd]
  exact if_congr (iff_of_eq (ofBool_eq_one _)) rfl rfl

theorem rowOf_rot {a b : ℕ} (v : FVec Ideal S1024x32 .f32) (h1 : S1024x32.Slices ![0, b] ⟨2, ![1024, a]⟩)
    (h0 : S1024x32.Slices ![0, 0] ⟨2, ![1024, b]⟩) (hc : Shape.Concatenates [⟨2, ![1024, a]⟩, ⟨2, ![1024, b]⟩] S1024x32 1)
    (r : Fin 1024) (k : ℕ) (hk : k < 32) : rowOf (rot v h1 h0 hc) r k = if k < a then rowOf v r (k + b) else rowOf v r (k - a) := by
  have hab : a + b = 32 := by
    have := hc.2.2
    simpa using this
  refine (rowOf_cat _ _ hc r k hk).trans ?_
  split_ifs with h
  · exact rowOf_slice v b h1 r k h
  · exact rowOf_slice v 0 h0 r (k - a) (by omega)

theorem lanes_pair (d : ℕ) (hd : d ∈ [1, 2, 4, 8, 16]) (k : ℕ) (hk : k < 32) :
    (k % (2 * d) < d → k < 32 - d) ∧ (¬ k % (2 * d) < d → d ≤ k) := by
  fin_cases hd <;> omega

theorem rowOf_stageD (d : ℕ) (hd : d ∈ [1, 2, 4, 8, 16]) (c : Cuts (32 - d) d) (v : FVec Ideal S1024x32 .f32) (r : Fin 1024) (k : ℕ) (hk : k < 32) :
    rowOf (stageD (BitVec.ofNat 32 (2 * d)) (BitVec.ofNat 32 d) c v) r k = stage false d (rowOf v r) k := by
  obtain ⟨h1, h2⟩ := lanes_pair d hd k hk
  refine (rowOf_firsts d hd _ _ r k hk).trans ?_
  unfold stage
  by_cases h : k % (2 * d) < d
  · rw [if_pos h, if_pos h, rowOf_max, rowOf_rot _ _ _ _ _ _ hk, if_pos (h1 h)]; rfl
  · rw [if_neg h, if_neg h, rowOf_min, rowOf_rot _ _ _ _ _ _ hk, if_neg (by have := h2 h; omega)]; rfl

theorem rowOf_stageA (d : ℕ) (hd : d ∈ [1, 2, 4, 8, 16]) (c : Cuts (32 - d) d) (v : FVec Ideal S1024x32 .f32) (r : Fin 1024) (k : ℕ) (hk : k < 32) :
    rowOf (stageA (BitVec.ofNat 32 (2 * d)) (BitVec.ofNat 32 d) c v) r k = stage true d (rowOf v r) k := by
  obtain ⟨h1, h2⟩ := lanes_pair d hd k hk
  refine (rowOf_firsts d hd _ _ r k hk).trans ?_
  unfold stage
  by_cases h : k % (2 * d) < d
  · rw [if_pos h, if_pos h, rowOf_min, rowOf_rot _ _ _ _ _ _ hk, if_pos (h1 h)]; rfl
  · rw [if_neg h, if_neg h, rowOf_max, rowOf_rot _ _ _ _ _ _ hk, if_neg (by have := h2 h; omega)]; rfl

/-- A stage reads the first 32 lanes only. -/
theorem stage_congr (asc : Bool) (d : ℕ) (hd : d ∈ [1, 2, 4, 8, 16]) {v w : ℕ → EReal} (h : ∀ k < 32, v k = w k) (k : ℕ) (hk : k < 32) :
    stage asc d v k = stage asc d w k := by
  obtain ⟨h1, h2⟩ := lanes_pair d hd k hk
  have hd' : d ≤ 16 := by fin_cases hd <;> decide
  unfold stage
  by_cases hm : k % (2 * d) < d
  · rw [if_pos hm, if_pos hm, h k hk, h (k + d) (by have := h1 hm; omega)]
  · rw [if_neg hm, if_neg hm, h k hk, h (k - d) (by omega)]

theorem rowOf_netD (v : FVec Ideal S1024x32 .f32) (r : Fin 1024) (k : ℕ) (hk : k < 32) : rowOf (netD v) r k = net false (rowOf v r) k := by
  have step : ∀ d ∈ [1, 2, 4, 8, 16], ∀ (c : Cuts (32 - d) d) (x : FVec Ideal S1024x32 .f32) (w : ℕ → EReal), (∀ k < 32, rowOf x r k = w k) →
      ∀ k < 32, rowOf (stageD (BitVec.ofNat 32 (2 * d)) (BitVec.ofNat 32 d) c x) r k = stage false d w k :=
    fun d hd c x w hw k hk => (rowOf_stageD d hd c x r k hk).trans (stage_congr false d hd hw k hk)
  exact step 1 (by decide) c1 _ _ (step 2 (by decide) c2 _ _ (step 4 (by decide) c4 _ _ (step 8 (by decide) c8 _ _
    (step 16 (by decide) c16 _ _ fun _ _ => rfl)))) k hk

theorem rowOf_netA (v : FVec Ideal S1024x32 .f32) (r : Fin 1024) (k : ℕ) (hk : k < 32) : rowOf (netA v) r k = net true (rowOf v r) k := by
  have step : ∀ d ∈ [1, 2, 4, 8, 16], ∀ (c : Cuts (32 - d) d) (x : FVec Ideal S1024x32 .f32) (w : ℕ → EReal), (∀ k < 32, rowOf x r k = w k) →
      ∀ k < 32, rowOf (stageA (BitVec.ofNat 32 (2 * d)) (BitVec.ofNat 32 d) c x) r k = stage true d w k :=
    fun d hd c x w hw k hk => (rowOf_stageA d hd c x r k hk).trans (stage_congr true d hd hw k hk)
  exact step 1 (by decide) c1 _ _ (step 2 (by decide) c2 _ _ (step 4 (by decide) c4 _ _ (step 8 (by decide) c8 _ _
    (step 16 (by decide) c16 _ _ fun _ _ => rfl)))) k hk

section
variable {v : FVec Ideal S1024x32 .f32} {w : FVec Ideal S1x1024x32 .f32} {r : Fin 1024} {c₁ c₂ : EReal → ℕ}

theorem rowOf_over (i : ℕ) (hi : i < 32) : rowOf (over v w) r i = max (rowOf v r i) ((fun k => rowOf3 w r (31 - k)) (31 - i)) := by
  unfold over
  rw [rowOf_max, rowOf_cast3]
  dsimp only
  rw [show 31 - (31 - i) = i by omega]

/-- Each merge of two lists holds the greatest of both. -/
theorem mergeB_top (h₁ : Top (rowOf v r) c₁) (h₂ : Top (fun k => rowOf3 w r (31 - k)) c₂) :
    Top (rowOf (mergeB v w) r) fun u => c₁ u + c₂ u := by
  intro j hj u hu
  have := h₁.merge h₂ (fun i hi => rowOf_over i hi) j hj u hu
  rw [mergeB_eq, rowOf_netD _ _ _ hj]
  exact this

theorem mergeA_top (h₁ : Top (rowOf v r) c₁) (h₂ : Top (fun k => rowOf3 w r (31 - k)) c₂) :
    Top (rowOf (mergeA v w).1 r) (fun u => c₁ u + c₂ u) ∧ Top (fun k => rowOf3 (mergeA v w).2 r (31 - k)) fun u => c₁ u + c₂ u := by
  rw [mergeA_eq]
  refine ⟨fun j hj u hu => ?_, fun j hj u hu => ?_⟩
  · have := h₁.merge h₂ (fun i hi => rowOf_over i hi) j hj u hu
    dsimp only
    rw [rowOf_netD _ _ _ hj]
    exact this
  · have := h₁.merge_asc h₂ (fun i hi => rowOf_over i hi) j hj u hu
    dsimp only
    rw [rowOf3_cast, rowOf_netA _ _ _ (by omega)]
    exact this

end

end Cert.KernelIdeal.Own

end

end
-- ==== Proof.Result.lean ====
/- # The kernel's result, row by row

Row by row, the two lists of a shard hold what the shard's 32 greatest entries need, and the two shards together the whole row:
under the precondition the result is the 32 greatest entries of the whole row in descending order, on every device. -/
module

public import Idealize.ShloMosaic.Lib.Layout
public import proofs.«01_k».proof.Proof.Pre
public import proofs.«01_k».proof.Proof.Select
public import proofs.«01_k».proof.Proof.Merge
public import proofs.«01_k».proof.Proof.RunI

@[expose] public section

noncomputable section

namespace Cert.KernelIdeal.Own

open Cert.KernelIdeal Cert.KernelIdeal.Gen Cert.Rank
open Idealize.ShloMosaic Idealize.ShloMosaic.TcCoe Idealize.ShloMosaic.ValueIdx

/-! ## Rows of blocks -/

/-- The `i`-th quarter of a half block. -/
def quarter (h : FVec Ideal S1024x4096 .f32) : Fin 4 → FVec Ideal S1024x1024 .f32 :=
  fun | 0 => quarter0 (F := Ideal) h | 1 => quarter1 (F := Ideal) h | 2 => quarter2 (F := Ideal) h | 3 => quarter3 (F := Ideal) h

theorem quarter_slice (h : FVec Ideal S1024x4096 .f32) (off : Fin 2 → ℕ) (inb : ∀ a, off a + S1024x1024.size a ≤ S1024x4096.size a) :
    (hM : Memref sig .tc .vmem S1024x4096 .f32).view.readAt (Elt Ideal) (Rect.unit (s := S1024x4096) off S1024x1024.size inb).toLoadRect h
      = extractStridedSlice S1024x1024 off h ⟨rfl, inb⟩ := by
  exact View.ld_unit (Val := Elt Ideal) (e := .f32) h off S1024x1024.size inb

theorem rowOf_piece (h : FVec Ideal S1024x4096 .f32) (off : Fin 2 → ℕ) (inb : ∀ a, off a + S1024x1024.size a ≤ S1024x4096.size a)
    (r : Fin 1024) (k : ℕ) (hk : k < 1024) (o : ℕ) (h0 : off 0 = 0) (h1 : off 1 = o) (hi : o + k < 4096) :
    rowOf (extractStridedSlice S1024x1024 off h ⟨rfl, inb⟩) r k = rowOf h r (o + k) := by
  rw [rowOf_lt _ r hk, rowOf_lt _ r hi]
  refine extractStridedSlice_apply _ _ _ _ _ fun a => ?_
  match a with
  | ⟨0, _⟩ => exact ((congrArg (· + r.val) h0).trans (Nat.zero_add _)).symm
  | ⟨1, _⟩ => exact (congrArg (· + k) h1).symm

theorem rowOf_quarter (h : FVec Ideal S1024x4096 .f32) (r : Fin 1024) (i : Fin 4) (k : ℕ) (hk : k < 1024) :
    rowOf (quarter h i) r k = rowOf h r (i.val * 1024 + k) := by
  match i with
  | 0 => exact (congrArg (fun v => rowOf v r k) (quarter_slice h ![0, 0] inb_S1024x4096_S1024x1024_0_0)).trans (rowOf_piece h ![0, 0] inb_S1024x4096_S1024x1024_0_0 r k hk _ rfl rfl (by omega))
  | 1 => exact (congrArg (fun v => rowOf v r k) (quarter_slice h ![0, 1024] inb_S1024x4096_S1024x1024_0_1024)).trans (rowOf_piece h ![0, 1024] inb_S1024x4096_S1024x1024_0_1024 r k hk _ rfl rfl (by omega))
  | 2 => exact (congrArg (fun v => rowOf v r k) (quarter_slice h ![0, 2048] inb_S1024x4096_S1024x1024_0_2048)).trans (rowOf_piece h ![0, 2048] inb_S1024x4096_S1024x1024_0_2048 r k hk _ rfl rfl (by omega))
  | 3 => exact (congrArg (fun v => rowOf v r k) (quarter_slice h ![0, 3072] inb_S1024x4096_S1024x1024_0_3072)).trans (rowOf_piece h ![0, 3072] inb_S1024x4096_S1024x1024_0_3072 r k hk _ rfl rfl (by omega))

variable (m : (ℓ : Loc nD τ sig) → Buf (Elt Ideal) ℓ)

/-- Device `c`'s argument. -/
def argOf (c : Dev nD) : FVec Ideal S1024x8192 .f32 := m ((c : Thread nD τ).loc main_arg0)

theorem rowOf_half (c : Dev nD) (r : Fin 1024) (k : ℕ) (hk : k < 4096) :
    rowOf (halfOf (F := Ideal) m c) r k = rowOf (argOf m c) r (4096 * (c.val / 2) + k) := by
  have hc : c.val < 4 := c.isLt
  have hi : 4096 * (c.val / 2) + k < 8192 := by omega
  rw [rowOf_lt _ r hk, rowOf_lt _ r hi]
  have e0 : k0_off1 c 0 = 0 := by rw [k0_off1_eq]; rfl
  have e1 : k0_off1 c 1 = 4096 * (c.val / 2) := by rw [k0_off1_eq]; rfl
  show argOf m c _ = _
  refine congrArg (argOf m c) (funext fun a => Fin.ext ?_)
  match a with
  | ⟨0, _⟩ => show k0_off1 c 0 + 1 * r.val = r.val; omega
  | ⟨1, _⟩ => show k0_off1 c 1 + 1 * k = 4096 * (c.val / 2) + k; omega

/-! ## The lists -/

/-- How many of the different values at `u` or over are among the candidates of a half block's row. -/
def held (h : FVec Ideal S1024x4096 .f32) (r : Fin 1024) (u : EReal) : ℕ :=
  (vals 128 (rowOf (candOf (F := Ideal) (quarter h 0) (quarter h 1) (quarter h 2) (quarter h 3)) r) u).card

theorem list_top (h : FVec Ideal S1024x4096 .f32) (r : Fin 1024) :
    Top (rowOf (listOf (F := Ideal) h).1 r) (held h r) ∧ Top (fun k => rowOf3 (listOf (F := Ideal) h).2 r (31 - k)) (held h r) :=
  localSel_top _ _ _ _ r

theorem half_cand (c : Dev nD) (r : Fin 1024) :
    Cand (fun i => rowOf (argOf m c) r (4096 * (c.val / 2) + i))
      (rowOf (candOf (F := Ideal) (quarter (halfOf (F := Ideal) m c) 0) (quarter (halfOf (F := Ideal) m c) 1) (quarter (halfOf (F := Ideal) m c) 2)
        (quarter (halfOf (F := Ideal) m c) 3)) r) :=
  candOf_cand (quarter (halfOf (F := Ideal) m c)) fun i k hk => by
    rw [rowOf_quarter _ r i k hk, rowOf_half m c r _ (by have := i.isLt; omega)]

theorem xn_half : ∀ c : Dev nD, (xn c).val / 2 = 1 - c.val / 2 := by decide +kernel
theorem xn_shard : ∀ c : Dev nD, (xn c).val % 2 = c.val % 2 := by decide +kernel
theorem yn_half : ∀ c : Dev nD, (yn c).val / 2 = c.val / 2 := by decide +kernel
theorem yn_shard : ∀ c : Dev nD, (yn c).val % 2 = 1 - c.val % 2 := by decide +kernel

variable [Cert.Pre_nothing_lost_KernelIdeal.Facts]

/-- Nothing is lost of device `c`'s argument. -/
def Kept (x : FVec Ideal S1024x8192 .f32) : Prop :=
  (Cert.Pre_nothing_lost_KernelIdeal.fn (F := Ideal) x).1 = (fun _ => 1#1) ∧ (Cert.Pre_nothing_lost_KernelIdeal.fn (F := Ideal) x).2.1 = (fun _ => 1#1)
    ∧ (Cert.Pre_nothing_lost_KernelIdeal.fn (F := Ideal) x).2.2 = (fun _ => 1#1)

/-- The two half blocks of a shard hold what its 32 greatest entries need. -/
theorem shard_counts (c : Dev nD) (r : Fin 1024) (hp : Kept (argOf m c)) (hx : argOf m (xn c) = argOf m c) (u : EReal) :
    min 32 (held (halfOf (F := Ideal) m c) r u + held (halfOf (F := Ideal) m (xn c)) r u) = min 32 (cnt 8192 (rowOf (argOf m c) r) u) := by
  obtain ⟨ht, hg⟩ := Cert.Pre_nothing_lost_KernelIdeal.Own.pre_row (argOf m c) r hp.1 hp.2.1 hp.2.2
  have g0 : Good (Cert.Pre_nothing_lost_KernelIdeal.Own.bound (argOf m c) r) (rowOf (argOf m c) r) := by
    have := hg 0
    simpa only [Fin.val_zero, Nat.zero_mul, Nat.zero_add] using this
  have g1 : Good (Cert.Pre_nothing_lost_KernelIdeal.Own.bound (argOf m c) r) (fun i => rowOf (argOf m c) r (4096 + i)) := by
    have := hg 1
    simpa only [Fin.val_one, Nat.one_mul] using this
  have k := half_cand m c r
  have k' := half_cand m (xn c) r
  rw [hx, xn_half] at k'
  have hc : c.val < 4 := c.isLt
  rcases (show c.val / 2 = 0 ∨ c.val / 2 = 1 by omega) with h | h <;> rw [h] at k k'
  · simp only [Nat.mul_zero, Nat.zero_add, Nat.sub_zero, Nat.mul_one] at k k'
    exact block_counts k k' ht g0 g1 u
  · simp only [Nat.mul_zero, Nat.zero_add, Nat.sub_self, Nat.mul_one] at k k'
    rw [Nat.add_comm]
    exact block_counts k' k ht g0 g1 u

/-! ## The result -/

theorem out_top (c : Dev nD) (r : Fin 1024) :
    Top (rowOf (outAt (F := Ideal) m c) r) fun u => held (halfOf (F := Ideal) m c) r u + held (halfOf (F := Ideal) m (xn c)) r u
      + (held (halfOf (F := Ideal) m (yn c)) r u + held (halfOf (F := Ideal) m (xn (yn c))) r u) :=
  mergeB_top (mergeA_top (list_top _ r).1 (list_top _ r).2).1 (mergeA_top (list_top _ r).1 (list_top _ r).2).2

/-- Device `c`'s argument is its shard of the whole array. -/
def IsShard (c : Dev nD) (x : FVec Ideal S1024x8192 .f32) (w : FVec Ideal ⟨2, ![1024, 16384]⟩ .f32) : Prop :=
  ∀ r : Fin 1024, ∀ i < 8192, rowOf x r i = rowOf w r (8192 * (c.val % 2) + i)

theorem IsShard.ext {c c' : Dev nD} {x x' : FVec Ideal S1024x8192 .f32} {w : FVec Ideal ⟨2, ![1024, 16384]⟩ .f32} (h : IsShard c x w) (h' : IsShard c' x' w)
    (e : c'.val % 2 = c.val % 2) : x' = x := by
  funext i
  rw [eq_ix2 i]
  have h1 : (i 1).val < 8192 := (i 1).isLt
  exact (rowOf_lt x' (i 0) h1).symm.trans (((h' (i 0) _ h1).trans (by rw [e])).trans ((h (i 0) _ h1).symm.trans (rowOf_lt x (i 0) h1)))

theorem IsShard.cnt {c : Dev nD} {x : FVec Ideal S1024x8192 .f32} {w : FVec Ideal ⟨2, ![1024, 16384]⟩ .f32} (h : IsShard c x w) (r : Fin 1024) (u : EReal) :
    cnt 8192 (rowOf x r) u = cnt 8192 (fun i => rowOf w r (8192 * (c.val % 2) + i)) u :=
  cnt_perm id Function.injective_id (f := fun i => rowOf w r (8192 * (c.val % 2) + i)) (fun i => h r i.val i.isLt) u

/-- The result counts as the whole row does, up to 32. -/
theorem out_counts (hp : ∀ c, Kept (argOf m c)) (w : FVec Ideal ⟨2, ![1024, 16384]⟩ .f32) (hw : ∀ c, IsShard c (argOf m c) w) (c : Dev nD) (r : Fin 1024) (u : EReal) :
    min 32 (held (halfOf (F := Ideal) m c) r u + held (halfOf (F := Ideal) m (xn c)) r u
      + (held (halfOf (F := Ideal) m (yn c)) r u + held (halfOf (F := Ideal) m (xn (yn c))) r u)) = min 32 (cnt 16384 (rowOf w r) u) := by
  have a := shard_counts m c r (hp c) ((hw c).ext (hw (xn c)) (xn_shard c)) u
  have b := shard_counts m (yn c) r (hp (yn c)) ((hw (yn c)).ext (hw (xn (yn c))) (xn_shard (yn c))) u
  rw [(hw c).cnt] at a
  rw [(hw (yn c)).cnt, yn_shard] at b
  have e : cnt 16384 (rowOf w r) u = cnt 8192 (fun i => rowOf w r (8192 * 0 + i)) u + cnt 8192 (fun i => rowOf w r (8192 * 1 + i)) u := by
    simp only [Nat.mul_zero, Nat.zero_add, Nat.mul_one]
    exact cnt_add 8192 8192 _ u
  rw [e]
  rcases Nat.mod_two_eq_zero_or_one c.val with h | h <;> rw [h] at a b
  · rw [Nat.sub_zero] at b
    omega
  · rw [Nat.sub_self] at b
    omega

/-- A vector whose rows are the 32 greatest entries of the whole array's rows is the result of every device. -/
theorem outAt_value (hp : ∀ c, Kept (argOf m c)) (w : FVec Ideal ⟨2, ![1024, 16384]⟩ .f32) (hw : ∀ c, IsShard c (argOf m c) w)
    (v : FVec Ideal S1024x32 .f32) (hv : ∀ r, Top (rowOf v r) (cnt 16384 (rowOf w r))) (c : Dev nD) : outAt (F := Ideal) m c = v := by
  have key : ∀ (r : Fin 1024) (j : Fin 32), outAt (F := Ideal) m c (ix2 r j) = v (ix2 r j) := fun r j => by
    have := Cert.Rank.Top.ext (out_top m c r) (hv r) (fun u _ => out_counts m hp w hw c r u) j.isLt
    exact (rowOf_lt _ r j.isLt).symm.trans (this.trans (rowOf_lt v r j.isLt))
  exact funext fun i => (congrArg (outAt (F := Ideal) m c) (eq_ix2 i)).trans ((key (i 0) (i 1)).trans (congrArg v (eq_ix2 i)).symm)

end Cert.KernelIdeal.Own

end

end
-- ==== Proof.RefRank.lean ====
/- # The reference, row by row

The reference sorts the positions of a row by the negated entries, stably, keeps the first 32 and reads the row there. The
positions lie inside the row, so neither its wrap of negative positions nor its mask of positions outside changes anything; and
the entries read are the row's in descending order. -/
module

public import Idealize.ShloMosaic.Lib.ReduceAll
public import proofs.«01_k».proof.Proof.Sorted
public import proofs.«01_k».proof.Proof.Tree
public import proofs.«01_k».proof.Proof.Gen.ReferenceIdeal

@[expose] public section

noncomputable section

namespace Cert.ReferenceIdeal.Own

open Cert.ReferenceIdeal Cert.ReferenceIdeal.Gen Cert.Rank Cert.Sorted
open Cert.KernelIdeal.Own (rowOf rowOf_lt)
open Idealize.ShloMosaic Idealize.ShloMosaic.ValueIdx

/-- The positions the reference keeps. -/
def kept (x : FVec Ideal S1024x16384 .f32) : IVec S1024x32 32 :=
  extractStridedSlice S1024x32 ![0, 0] ((Host.sort2 S1024x16384 1 comparator_f32_i32_d1 (Host.negf x) (iotaInDim S1024x16384 32 1)).2)
    slices_S1024x16384_S1024x32_0_0

/-- The positions it reads at: the kept ones, a negative one counted from the row's end. -/
def wrapped (x : FVec Ideal S1024x16384 .f32) : IVec S1024x32 32 :=
  select (cmpi .slt (kept x) (broadcastInDim S1024x32 ![] bcast_S_S1024x32 (constantI S_ 32 0#32)))
    (addi (kept x) (broadcastInDim S1024x32 ![] bcast_S_S1024x32 (constantI S_ 32 16384#32))) (kept x)

/-- The bit that says a position lies inside the row. -/
def inside (p : IVec S1024x32x1 32) : IVec S1024x32 1 :=
  Host.reduce IntOp.andi (andi (cmpi .sge p (broadcastInDim S1024x32x1 ![] bcast_S_S1024x32x1 (constantI S_ 32 0#32)))
    (cmpi .sle p (broadcastInDim S1024x32x1 ![0, 1, 2] bcast_S1x1x1_S1024x32x1_0_1_2 (broadcastInDim S1x1x1 ![2] bcast_S1_S1x1x1_2 (constantI S1 32 16383#32)))))
    (constantI S_ 1 1#1) reducesTo_S1024x32x1_S1024x32_d2 h_S_

/-- The reference's result. -/
def refOut (x : FVec Ideal S1024x16384 .f32) : FVec Ideal S1024x32 .f32 :=
  select (inside (shapeCast S1024x32x1 (wrapped x) shapeCasts_S1024x32_S1024x32x1))
    (Host.gather gather_S1024x16384_S1024x32x1_S1024x32_n_1_0_0_1_2_11 x (shapeCast S1024x32x1 (wrapped x) shapeCasts_S1024x32_S1024x32x1))
    (broadcastInDim S1024x32 ![] bcast_S_S1024x32 (constant S_ .f32 0x7FC00000#32))

variable (x : FVec Ideal S1024x16384 .f32) (r : Fin 1024)

theorem comparator_eq (l s : EReal × BitVec 32) : comparator_f32_i32_d1 (F := Ideal) l s = lt1 l.1 s.1 := by
  show Ideal.cmp .olt _ _ = _
  exact congrArg₂ lt1 (canon l.1 _) (canon s.1 _)

/-- Where row `r` sorted in descending order takes its entries from. -/
def from_ : Fin 16384 → Fin 16384 := src fun k : Fin 16384 => -(rowOf x r k.val)

theorem along_self {s : Shape} (j : s.Idx) (d : Fin s.rank) (k : Fin (s.size d)) : j.along d k d = k := Function.update_self ..

theorem kept_apply (j : Fin 32) (h : j.val < 16384) : kept x (ix2 r j) = BitVec.ofNat 32 (from_ x r ⟨j.val, h⟩).val := by
  refine (extractStridedSlice_apply _ _ _ _ (ix2 r (⟨j.val, h⟩ : Fin 16384)) fun a => ?_).trans ?_
  · match a with
    | ⟨0, _⟩ => exact (Nat.zero_add _).symm
    | ⟨1, _⟩ => exact (Nat.zero_add _).symm
  · refine (sort2_row (s := S1024x16384) 1 _ comparator_eq _ _ _ (fun k => -(rowOf x r k)) fun (k : Fin 16384) => ?_).trans ?_
    · rw [rowOf_lt x r k.isLt]
      show -(x _) = _
      refine congrArg (fun i => -(x i)) (funext fun a => ?_)
      match a with
      | ⟨0, _⟩ => rfl
      | ⟨1, _⟩ => rfl
    · unfold iotaInDim
      rw [along_self]
      rfl

theorem small_toInt {n : ℕ} (h : n < 16384) : (BitVec.ofNat 32 n).toInt = n := by
  rw [BitVec.toInt_ofNat']
  exact Int.bmod_eq_of_le (by omega) (by omega)

theorem small_slt {n : ℕ} (h : n < 16384) : IntOp.cmpi .slt (BitVec.ofNat 32 n) 0#32 = 0#1 := by
  show BitVec.ofBool (decide ((BitVec.ofNat 32 n).toInt < (0#32).toInt)) = _
  rw [small_toInt h, decide_eq_false (by simp)]
  rfl

theorem small_sge {n : ℕ} (h : n < 16384) : IntOp.cmpi .sge (BitVec.ofNat 32 n) 0#32 = 1#1 := by
  show BitVec.ofBool (decide ((0#32).toInt ≤ (BitVec.ofNat 32 n).toInt)) = _
  rw [small_toInt h, decide_eq_true (by simp)]
  rfl

theorem small_sle {n : ℕ} (h : n < 16384) : IntOp.cmpi .sle (BitVec.ofNat 32 n) 16383#32 = 1#1 := by
  have e : (BitVec.ofNat 32 n).sle 16383#32 = true := by
    rw [BitVec.sle_iff_toInt_le, small_toInt h, show (16383#32).toInt = 16383 from by decide]
    omega
  unfold IntOp.cmpi
  dsimp only
  rw [e]
  rfl

theorem wrapped_apply (j : Fin 32) (h : j.val < 16384) : wrapped x (ix2 r j) = BitVec.ofNat 32 (from_ x r ⟨j.val, h⟩).val := by
  have e : cmpi .slt (kept x) (broadcastInDim S1024x32 ![] bcast_S_S1024x32 (constantI S_ 32 0#32)) (ix2 r j) = 0#1 := by
    refine Eq.trans (b := IntOp.cmpi .slt (kept x (ix2 r j)) 0#32) rfl ?_
    rw [kept_apply x r j h]
    exact small_slt (Fin.isLt _)
  unfold wrapped
  rw [select_apply, e, ← kept_apply x r j h]
  exact if_neg (by decide)

theorem positions_apply (j : Fin 32) (h : j.val < 16384) (i : S1024x32x1.Idx) (hi : i = ix3 r j 0) :
    shapeCast S1024x32x1 (wrapped x) shapeCasts_S1024x32_S1024x32x1 i = BitVec.ofNat 32 (from_ x r ⟨j.val, h⟩).val := by
  subst hi
  refine (shapeCast_apply _ _ _ (ix2 r j) ?_).trans (wrapped_apply x r j h)
  rw [Shape.rowMajor_val_two, Shape.rowMajor_val_three]
  show r.val * 32 + j.val = (r.val * 32 + j.val) * 1 + 0
  omega

theorem inside_eq (j : S1024x32.Idx) : inside (shapeCast S1024x32x1 (wrapped x) shapeCasts_S1024x32_S1024x32x1) j = 1#1 := by
  refine Host.reduce_andi_one _ _ _ _ _ rfl fun i => ?_
  have h : (i 1).val < 32 := (i 1).isLt
  have e := positions_apply x (i 0) (i 1) (h.trans (by norm_num)) i (funext fun a => by
    match a with
    | ⟨0, _⟩ => rfl
    | ⟨1, _⟩ => rfl
    | ⟨2, _⟩ => exact Subsingleton.elim (α := Fin 1) _ _)
  show IntOp.andi (IntOp.cmpi .sge _ 0#32) (IntOp.cmpi .sle _ 16383#32) = 1#1
  rw [e, small_sge (Fin.isLt _), small_sle (Fin.isLt _)]
  rfl

/-- The gather along the columns: each result entry is its row at the position given, kept inside the row. -/
theorem gather_row (p : IVec S1024x32x1 32) (j : Fin 32) (i : Fin 16384) (hi : min (p (ix3 r j 0)).toInt.toNat 16383 = i.val) :
    Host.gather gather_S1024x16384_S1024x32x1_S1024x32_n_1_0_0_1_2_11 x p (ix2 r j) = x (ix2 r i) := by
  unfold Host.gather
  congr 1
  funext a
  refine Fin.ext ?_
  show gather_S1024x16384_S1024x32x1_S1024x32_n_1_0_0_1_2_11.start (ix2 r j) p a + gather_S1024x16384_S1024x32x1_S1024x32_n_1_0_0_1_2_11.batchCoord (ix2 r j) a
    + gather_S1024x16384_S1024x32x1_S1024x32_n_1_0_0_1_2_11.offCoord (ix2 r j) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S1024x16384_S1024x32x1_S1024x32_n_1_0_0_1_2_11.operandBatchingDims from List.mem_singleton.mpr rfl)]
    rfl
  · rw [GatherDims.batchCoord_eq_zero _ _ _ (fun h => absurd (congrArg Fin.val (List.mem_singleton.mp h)) (by norm_num)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x16384_S1024x32x1_S1024x32_n_1_0_0_1_2_11.startIndexMap from List.mem_singleton.mpr rfl)]
    have e : gather_S1024x16384_S1024x32x1_S1024x32_n_1_0_0_1_2_11.siIdx (ix2 r j)
        ⟨List.idxOf (1 : Fin 2) gather_S1024x16384_S1024x32x1_S1024x32_n_1_0_0_1_2_11.startIndexMap, List.idxOf_lt_length_iff.2 (List.mem_singleton.mpr rfl)⟩
        = ix3 r j 0 := by
      funext b; refine Fin.ext ?_
      match b with
      | ⟨0, _⟩ => rfl
      | ⟨1, _⟩ => rfl
      | ⟨2, _⟩ => rfl
    exact (congrArg (fun i => min (p i).toInt.toNat 16383) e).trans hi

theorem rowOf_fin (k : Fin 16384) : rowOf x r k.val = x (ix2 r k) := rowOf_lt x r k.isLt

theorem refOut_apply (j : Fin 32) (h : j.val < 16384) : refOut x (ix2 r j) = rowOf x r (from_ x r ⟨j.val, h⟩).val := by
  have e := positions_apply x r j h (ix3 r j 0) rfl
  have e' : min (shapeCast S1024x32x1 (wrapped x) shapeCasts_S1024x32_S1024x32x1 (ix3 r j 0)).toInt.toNat 16383 = (from_ x r ⟨j.val, h⟩).val := by
    rw [e, small_toInt (Fin.isLt _), Int.toNat_natCast]
    have := (from_ x r ⟨j.val, h⟩).isLt
    omega
  unfold refOut
  rw [select_apply, inside_eq, gather_row x r _ j _ e', rowOf_fin]
  unfold Scalar.select
  rw [if_pos (by decide)]

/-- The reference's row is the 32 greatest entries of the argument's, in descending order. -/
theorem refOut_top : Top (rowOf (refOut x) r) (cnt 16384 (rowOf x r)) := by
  intro j hj u _
  have hj' : j < 16384 := hj.trans (by norm_num)
  let g : ℕ → EReal := fun i => if h : i < 16384 then rowOf x r (from_ x r ⟨i, h⟩).val else ⊥
  have hg : ∀ i (h : i < 16384), g i = rowOf x r (from_ x r ⟨i, h⟩).val := fun i h => dif_pos h
  have e : rowOf (refOut x) r j = g j := by
    rw [rowOf_lt _ r hj, hg j hj']
    exact refOut_apply x r ⟨j, hj⟩ hj'
  rw [e, le_iff_of_antitone (n := 16384) (g := g) ?_ hj' u,
    cnt_perm (from_ x r) (src_injective _) (f := rowOf x r) (g := g) (fun i => hg i.val i.isLt) u]
  intro i k hik hk
  rw [hg i (hik.trans_lt hk), hg k hk]
  exact EReal.neg_le_neg_iff.mp (src_mono (fun k : Fin 16384 => -(rowOf x r k.val)) (i := ⟨i, hik.trans_lt hk⟩) (j := ⟨k, hk⟩) hik)

end Cert.ReferenceIdeal.Own

end

end
-- ==== Proof.Final.lean ====
/- # The kernel and the reference agree

What the kernel leaves in its result is what its body computed; a device's argument is its shard of the reference's argument;
so on every device the result is the reference's. -/
module

public import Idealize.ShloMosaic.Lib.Pipeline.ValueKit.Geometry
public import proofs.«01_k».proof.Proof.Result
public import proofs.«01_k».proof.Proof.RefRank

@[expose] public section

noncomputable section

namespace Cert.KernelIdeal.Own

open Cert.KernelIdeal Cert.KernelIdeal.Gen Cert.Rank
open Idealize.ShloMosaic Idealize.ShloMosaic.TcCoe Idealize.ShloMosaic.ValueIdx

variable (m : (ℓ : Loc nD τ sig) → Buf (Elt Ideal) ℓ) (ρ : Dev nD → PrngReg)

/-- The result array ends at what the body computed: its one block is the whole array. -/
theorem finalA_eq (c : Dev nD) : finalA (F := Ideal) m ρ c 0 = outAt (F := Ideal) m c :=
  (dats (F := Ideal) m ρ 0 c).arrAt_eq_of_covers 0 (outAt (F := Ideal) m c) (by decide +kernel) fun t _ y => by
    show outAt (F := Ideal) m c _ = outAt (F := Ideal) m c _
    refine congrArg (outAt (F := Ideal) m c) (funext fun a => Fin.ext ?_)
    exact (Pipeline.Window.rect_emb_val_of_index_zero win0_0 t a rfl y).symm

/-- Which block of the whole array device `c` holds, along each axis. -/
def cut (c : Dev nD) : (b : Fin 2) → Fin (Layout.cutSize [2, 2] ((![[], [1]] : Fin 2 → List ℕ) b)) := Layout.meshBlock [2, 2] ![[], [1]] c

theorem cut_rows : ∀ c : Dev nD, (cut c 0).val = 0 := by decide +kernel
theorem cut_cols : ∀ c : Dev nD, (cut c 1).val = c.val % 2 := by decide +kernel

/-- The layout, read by rows. -/
theorem shard_of_block (w : FVec Ideal ⟨2, ![1024, 16384]⟩ .f32) (c : Dev nD) (x : FVec Ideal S1024x8192 .f32)
    (h : x = Layout.blockN ⟨2, ![1024, 8192]⟩ ⟨2, ![1024, 16384]⟩ (Layout.meshBlock [2, 2] ![[], [1]] c) w) : IsShard c x w := by
  intro r i hi
  have hj : 8192 * (c.val % 2) + i < 16384 := by have := Nat.mod_lt c.val (show 0 < 2 by norm_num); omega
  rw [rowOf_lt x r hi, rowOf_lt w r hj, h, Layout.blockN_apply]
  have e0 : (cut c 0).val * 1024 + r.val = r.val := by rw [cut_rows]; omega
  have e1 : (cut c 1).val * 8192 + i = 8192 * (c.val % 2) + i := by rw [cut_cols]; omega
  refine congrArg w (funext fun a => Fin.ext ((Layout.TilesN.idx_val _ _ _ a).trans ?_))
  match a with
  | ⟨0, _⟩ => exact e0
  | ⟨1, _⟩ => exact e1

variable [Cert.Pre_nothing_lost_KernelIdeal.Facts]

/-- Where nothing is lost, the kernel's result is the reference's. -/
theorem result_eq (hp : ∀ c, Kept (argOf m c)) (w : FVec Ideal ⟨2, ![1024, 16384]⟩ .f32) (hw : ∀ c, IsShard c (argOf m c) w) (c : Dev nD) :
    finalA (F := Ideal) m ρ c 0 = Cert.ReferenceIdeal.Own.refOut w :=
  (finalA_eq m ρ c).trans (outAt_value m hp w hw _ (Cert.ReferenceIdeal.Own.refOut_top w) c)

end Cert.KernelIdeal.Own

end

end
-- ==== Proof.lean ====
/- # The proof of the certificate's claim

The kernel's run is Proof/RunF.lean (over the machine's floats) and Proof/RunI.lean (over the extended reals); this file
reads the claims off them, and the values off Proof/Final.lean. -/
module

public import proofs.«01_k».proof.Defs
public import proofs.«01_k».proof.Proof.RunF
public import proofs.«01_k».proof.Proof.RunI
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_nothing_lost_KernelIdeal
public import proofs.«01_k».proof.Proof.Gen.Pre_nothing_lost_ReferenceIdeal
public import proofs.«01_k».proof.Proof.Final
public import Idealize.ShloMosaic.Lib.Quiescent

@[expose] public section

noncomputable section

namespace Cert.Proof

open Idealize.ShloMosaic Idealize.SL.Sem Cert.Kernel

/-- The kernel's frame, over the machine's floats. -/
theorem frame_kernel : Cert.quiescent_Kernel := fun m ρ _ =>
  (θ_run Cert.Kernel.defs _ _).mono (fun _ h => ⟨fun c => (h.1 c).2, h.2⟩) (Cert.Kernel.Own.run_main (F := Bits) m ρ)

/-- The ideal kernel's frame. -/
theorem frame_kernelIdeal : Cert.quiescent_KernelIdeal := fun m ρ _ =>
  (θ_run Cert.KernelIdeal.defs _ _).mono (fun _ h => ⟨fun c => (h.1 c).2, h.2⟩) (Cert.KernelIdeal.Own.run_main (F := Ideal) m ρ)

/-- The reference's frame: it is a straight line of host operations, and declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where nothing is lost, the ideal kernel's result is the ideal reference's on every device. -/
theorem algebraic [Cert.Pre_nothing_lost_KernelIdeal.Facts] : Cert.algebraic_KernelIdeal_ReferenceIdeal_pre_nothing_lost_KernelIdeal :=
  fun m ρ m' ρ' hp hm =>
    ⟨Cert.ReferenceIdeal.Own.refOut (m' (((0 : Dev Cert.ReferenceIdeal.nD).tc : Thread Cert.ReferenceIdeal.nD Cert.ReferenceIdeal.τ).loc Cert.ReferenceIdeal.main_arg0)),
      (θ_run Cert.KernelIdeal.defs _ _).mono (fun _ h c => ⟨((h.1 c).1 0).trans (Cert.KernelIdeal.Own.result_eq m ρ hp _
        (fun c => Cert.KernelIdeal.Own.shard_of_block _ c _ (hm c)) c), (h.1 c).2⟩) (Cert.KernelIdeal.Own.run_main (F := Ideal) m ρ),
      (θ_run Cert.ReferenceIdeal.defs _ _).mono (fun _ h => ⟨(h 0).1, (h 0).2⟩) (Cert.ReferenceIdeal.Value.run (F := Ideal) m' ρ')⟩

theorem claim : Cert.Claim :=
  ⟨Cert.Kernel.Gen.facts, Cert.KernelIdeal.Gen.facts, Cert.ReferenceIdeal.Gen.facts,
    Cert.Pre_nothing_lost_KernelIdeal.Gen.facts, Cert.Pre_nothing_lost_ReferenceIdeal.Gen.facts,
    frame_kernel, frame_kernelIdeal, fun m ρ _ => frame_kernelIdeal m ρ trivial,
    frame_referenceIdeal, fun m ρ _ => frame_referenceIdeal m ρ trivial, trivial, algebraic⟩

end Cert.Proof

end
